-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_route_in_range_KernelIdeal [hPre_route_in_range_KernelIdeal : Cert.Pre_route_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_route_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_route_in_range_ReferenceIdeal [hPre_route_in_range_ReferenceIdeal : Cert.Pre_route_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_route_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_route_in_range_KernelIdeal [hKernelIdeal : Cert.KernelIdeal.Facts] [hPre_route_in_range_KernelIdeal : Cert.Pre_route_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_route_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_route_in_range_ReferenceIdeal [hReferenceIdeal : Cert.ReferenceIdeal.Facts] [hPre_route_in_range_ReferenceIdeal : Cert.Pre_route_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_route_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_route_in_range_KernelIdeal [hKernelIdeal : Cert.KernelIdeal.Facts] [hReferenceIdeal : Cert.ReferenceIdeal.Facts] [hPre_route_in_range_KernelIdeal : Cert.Pre_route_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_route_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_route_in_range_KernelIdeal : Cert.Pre_route_in_range_KernelIdeal.Facts) (hPre_route_in_range_ReferenceIdeal : Cert.Pre_route_in_range_ReferenceIdeal.Facts),
    quiescent_Kernel (hKernel := hKernel)
    ∧ quiescent_KernelIdeal (hKernelIdeal := hKernelIdeal)
    ∧ quiescent_KernelIdeal_pre_route_in_range_KernelIdeal (hKernelIdeal := hKernelIdeal) (hPre_route_in_range_KernelIdeal := hPre_route_in_range_KernelIdeal)
    ∧ quiescent_ReferenceIdeal (hReferenceIdeal := hReferenceIdeal)
    ∧ quiescent_ReferenceIdeal_pre_route_in_range_ReferenceIdeal (hReferenceIdeal := hReferenceIdeal) (hPre_route_in_range_ReferenceIdeal := hPre_route_in_range_ReferenceIdeal)
    ∧ preserves_Kernel_KernelIdeal
    ∧ algebraic_KernelIdeal_ReferenceIdeal_pre_route_in_range_KernelIdeal (hKernelIdeal := hKernelIdeal) (hReferenceIdeal := hReferenceIdeal) (hPre_route_in_range_KernelIdeal := hPre_route_in_range_KernelIdeal)
-- ==== Pre_route_in_range_KernelIdeal.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x256 .bf16) (main_arg1 : FVec F S256x16 .bf16) (main_arg2 : IVec S1024x1 32) (main_arg3 : FVec F S4x256x512 .bf16) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 16#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Pre_route_in_range_ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x256 .bf16) (main_arg1 : FVec F S256x16 .bf16) (main_arg2 : IVec S1024x1 32) (main_arg3 : FVec F S16x256x512 .bf16) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 16#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S1024x512 : Shape := ⟨2, ![1024, 512]⟩
abbrev S1024x1024 : Shape := ⟨2, ![1024, 1024]⟩
abbrev S3 : Shape := ⟨1, ![3]⟩
abbrev S_ : Shape := ⟨0, ![]⟩
abbrev S1024x16 : Shape := ⟨2, ![1024, 16]⟩
abbrev S1024 : Shape := ⟨1, ![1024]⟩
abbrev S256x256 : Shape := ⟨2, ![256, 256]⟩
abbrev S64x256 : Shape := ⟨2, ![64, 256]⟩
abbrev S1x256x512 : Shape := ⟨3, ![1, 256, 512]⟩
abbrev S256x512 : Shape := ⟨2, ![256, 512]⟩
abbrev S64x512 : Shape := ⟨2, ![64, 512]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x1, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S1024x1, .i32⟩
  | .local _ .vmem, ⟨2, _⟩ => ⟨S4x256x512, .bf16⟩
  | .local _ .vmem, ⟨3, _⟩ => ⟨S1024x512, .f32⟩
  | .local _ .vmem, ⟨4, _⟩ => ⟨S1024x1024, .bf16⟩
  | .local _ .vmem, ⟨5, _⟩ => ⟨S1024x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_5 : BitVec 32 := 1#32
  let v11 : BitVec 32 := Scalar.muli v3 c1_i32_5
  let v12 : BitVec 32 := Scalar.addi c0_i32 v11
  v12.toNat
def k0_dev2 (d0 : Dev nD) : Nat :=
  let c0_i32_8 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_7 : BitVec 32 := 1#32
  let v13 : BitVec 32 := Scalar.muli v4 c1_i32_7
  let v14 : BitVec 32 := Scalar.addi c0_i32_8 v13
  v14.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_10 : BitVec 32 := 1#32
  let v15 : BitVec 32 := Scalar.muli v5 c1_i32_10
  let v16 : BitVec 32 := Scalar.addi c0_i32_11 v15
  v16.toNat
def k0_off1 (d0 : Dev nD) : Fin 2 → Nat :=
  let c0_29 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v6 : BitVec 32 := Scalar.muli v2 c256_i32
  let v95 : Index := Scalar.indexCast v6
  ![0, v95.toNat]
def k0_off2 (d0 : Dev nD) (c0_i32_38 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v6 : BitVec 32 := Scalar.muli v2 c256_i32
  let v110 : BitVec 32 := Scalar.addi v6 c0_i32_38
  let v111 : Index := Scalar.indexCast v110
  let c0_39 : Index := 0#32
  ![v111.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v6 : BitVec 32 := Scalar.muli v2 c256_i32
  let c0_i32_58 : BitVec 32 := 0#32
  ![v6.toNat, 0]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_56 : BitVec 32 := 1#32
  let v145 : BitVec 32 := Scalar.muli v3 c1_i32_56
  let v146 : BitVec 32 := Scalar.addi c0_i32_57 v145
  v146.toNat
def k0_dev5 (d0 : Dev nD) : Nat :=
  let c0_i32_63 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_62 : BitVec 32 := 1#32
  let v153 : BitVec 32 := Scalar.muli v4 c1_i32_62
  let v154 : BitVec 32 := Scalar.addi c0_i32_63 v153
  v154.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_68 : BitVec 32 := 1#32
  let v161 : BitVec 32 := Scalar.muli v5 c1_i32_68
  let v162 : BitVec 32 := Scalar.addi c0_i32_69 v161
  v162.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v6 : BitVec 32 := Scalar.muli v2 c256_i32
  let v180 : Index := Scalar.indexCast v6
  let c0_75 : Index := 0#32
  ![v180.toNat, 0]
def k0_off5 (d0 : Dev nD) (c1_i32_0 : BitVec 32) : Fin 2 → Nat :=
  let c0_87 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c1_i32_0
  let c256_i32_1 : BitVec 32 := 256#32
  let v7 : BitVec 32 := Scalar.muli v3 c256_i32_1
  let v192 : Index := Scalar.indexCast v7
  ![0, v192.toNat]
def k0_off6 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c1_i32_0
  let c256_i32_1 : BitVec 32 := 256#32
  let v7 : BitVec 32 := Scalar.muli v3 c256_i32_1
  let v194 : Index := Scalar.indexCast v7
  let c0_88 : Index := 0#32
  ![v194.toNat, 0]
def k0_off7 (d0 : Dev nD) : Fin 2 → Nat :=
  let c0_100 : Index := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_2 : BitVec 32 := 256#32
  let v8 : BitVec 32 := Scalar.muli v4 c256_i32_2
  let v207 : Index := Scalar.indexCast v8
  ![0, v207.toNat]
def k0_off8 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_2 : BitVec 32 := 256#32
  let v8 : BitVec 32 := Scalar.muli v4 c256_i32_2
  let v209 : Index := Scalar.indexCast v8
  let c0_101 : Index := 0#32
  ![v209.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S16 : Shape := ⟨1, ![16]⟩
abbrev S1x16 : Shape := ⟨2, ![1, 16]⟩
abbrev S1024x16 : Shape := ⟨2, ![1024, 16]⟩
abbrev S_ : Shape := ⟨0, ![]⟩
abbrev S1024x16x512 : Shape := ⟨3, ![1024, 16, 512]⟩
abbrev S1024x16x1 : Shape := ⟨3, ![1024, 16, 1]⟩
abbrev S1024x512 : Shape := ⟨2, ![1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x1, .i32⟩
  | .hbm, ⟨3, _⟩ => ⟨S16x256x512, .bf16⟩
  | .hbm, ⟨4, _⟩ => ⟨S16, .i32⟩
  | .hbm, ⟨5, _⟩ => ⟨S1x16, .i32⟩
  | .hbm, ⟨6, _⟩ => ⟨S1024x16, .i32⟩
  | .hbm, ⟨7, _⟩ => ⟨S1024x16, .i32⟩
  | .hbm, ⟨8, _⟩ => ⟨S1024x16, .i1⟩
  | .hbm, ⟨9, _⟩ => ⟨S1024x16, .i32⟩
  | .hbm, ⟨10, _⟩ => ⟨S_, .i32⟩
  | .hbm, ⟨11, _⟩ => ⟨S_, .i32⟩
  | .hbm, ⟨12, _⟩ => ⟨S1024x16, .i32⟩
  | .hbm, ⟨13, _⟩ => ⟨S1024x16, .i32⟩
  | .hbm, ⟨14, _⟩ => ⟨S1024x16, .i32⟩
  | .hbm, ⟨15, _⟩ => ⟨S_, .i32⟩
  | .hbm, ⟨16, _⟩ => ⟨S1024x16, .i32⟩
  | .hbm, ⟨17, _⟩ => ⟨S1024x16, .i1⟩
  | .hbm, ⟨18, _⟩ => ⟨S1024x16, .i1⟩
  | .hbm, ⟨19, _⟩ => ⟨S1024x256, .f32⟩
  | .hbm, ⟨20, _⟩ => ⟨S16x256x512, .f32⟩
  | .hbm, ⟨21, _⟩ => ⟨S1024x16x512, .f32⟩
  | .hbm, ⟨22, _⟩ => ⟨S1024x16x1, .i1⟩
  | .hbm, ⟨23, _⟩ => ⟨S_, .f32⟩
  | .hbm, ⟨24, _⟩ => ⟨S_, .f32⟩
  | .hbm, ⟨25, _⟩ => ⟨S1024x16x512, .i1⟩
  | .hbm, ⟨26, _⟩ => ⟨S1024x16x512, .f32⟩
  | .hbm, ⟨27, _⟩ => ⟨S1024x16x512, .f32⟩
  | .hbm, ⟨28, _⟩ => ⟨S_, .f32⟩
  | .hbm, ⟨29, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Proof.Contents.lean ====
/- What the buffers of one launch hold: the peers a device talks to, the rows of the expert-result buffer that belong
   to each device, the contents of that buffer when every device's rows have arrived, and the result block. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Dispatch

open Cert.KernelIdeal Cert.KernelIdeal.Gen
open Idealize.ShloMosaic Idealize.ShloMosaic.TcCoe
open Idealize.SL Idealize.SL.Sem

variable {F : FTy → Type} [FloatOps F]

/-! ## The peers -/

set_option backward.proofsInPublic true in
/-- The device that `c` exchanges its rows with over channel `k`: the neighbour across bit 0, the mirror image, the
    neighbour across bit 1. -/
def peer (k : Fin 3) (c : Dev nD) : Dev nD :=
  ⟨match k with | 0 => c.val + 1 - 2 * (c.val % 2) | 1 => 3 - c.val | 2 => (c.val + 2) % 4, by revert k c; decide⟩

/-- Each channel pairs the devices up. -/
theorem peer_peer (k : Fin 3) (c : Dev nD) : peer k (peer k c) = c := by revert k c; decide
/-- No device is its own peer. -/
theorem peer_ne (k : Fin 3) (c : Dev nD) : peer k c ≠ c := by revert k c; decide
/-- The three peers of a device differ. -/
theorem peer_inj (c : Dev nD) {k k' : Fin 3} (h : peer k c = peer k' c) : k = k' := by revert k k' c; decide

/-- Channel `k` as a permutation of the devices. -/
def swap (k : Fin 3) : Dev nD ≃ Dev nD := ⟨peer k, peer k, peer_peer k, peer_peer k⟩

/-- The device a signal or a copy is addressed to, over each channel. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-- The columns of the one-hot matrix and the rows of the buffer read after channel `k`'s wait are the peer's. -/
theorem off5_0 (c : Dev nD) : k0_off5 c 1#32 = ![0, 256 * (peer 0 c).val] := by revert c; decide +kernel
theorem off5_1 (c : Dev nD) : k0_off5 c 2#32 = ![0, 256 * (peer 2 c).val] := by revert c; decide +kernel
theorem off6_0 (c : Dev nD) : k0_off6 c 1#32 = ![256 * (peer 0 c).val, 0] := by revert c; decide +kernel
theorem off6_1 (c : Dev nD) : k0_off6 c 2#32 = ![256 * (peer 2 c).val, 0] := by revert c; decide +kernel
theorem off7_eq (c : Dev nD) : k0_off7 c = ![0, 256 * (peer 1 c).val] := by revert c; decide +kernel
theorem off8_eq (c : Dev nD) : k0_off8 c = ![256 * (peer 1 c).val, 0] := by revert c; decide +kernel

/-! ## The buffers -/

abbrev xM : Memref sig .tc .vmem S1024x256 .bf16 := Memref.whole cc0_stg0_0
abbrev rM : Memref sig .tc .vmem S1024x1 .i32 := Memref.whole cc0_stg1_0
abbrev wM : Memref sig .tc .vmem S4x256x512 .bf16 := Memref.whole cc0_stg2_0
abbrev oM : Memref sig .tc .vmem S1024x512 .f32 := Memref.whole cc0_stg3_0
abbrev pM : Memref sig .tc .vmem S1024x1024 .bf16 := Memref.whole cc0_scratch0
abbrev yM : Memref sig .tc .vmem S1024x512 .bf16 := Memref.whole cc0_scratch1

/-- The rows of the expert-result buffer that device `d` fills: 256 rows from row `256 d` on. -/
abbrev rowsM (d : Dev nD) : Memref sig .tc .vmem S256x512 .bf16 :=
  yM.slice (Rect.unit (s := S1024x512) (k0_off3 d) S256x512.size (k0_off3_inb d)) (fun _ => rfl)

/-- Their index set. -/
def rowSet (d : Dev nD) : Finset S1024x512.Idx := (rowsM d).view.set

theorem mem_rowSet (d : Dev nD) (i : S1024x512.Idx) : i ∈ rowSet d ↔ (i 0).val / 256 = d.val := by
  unfold rowSet
  rw [show (rowsM d).view.set = (Rect.unit (s := S1024x512) (k0_off3 d) S256x512.size (k0_off3_inb d)).set from View.set_slice_whole _ _,
    Rect.mem_set_unit]
  have h0 : (i 0).val < 1024 := (i 0).isLt
  have h1 : (i 1).val < 512 := (i 1).isLt
  rw [show (∀ a : Fin S1024x512.rank, k0_off3 d a ≤ (i a).val ∧ (i a).val < k0_off3 d a + S256x512.size a) ↔
      (k0_off3 d 0 ≤ (i 0).val ∧ (i 0).val < k0_off3 d 0 + 256) ∧ (k0_off3 d 1 ≤ (i 1).val ∧ (i 1).val < k0_off3 d 1 + 512) from
    ⟨fun h => ⟨h 0, h 1⟩, fun h a => by fin_cases a; exacts [h.1, h.2]⟩, k0_off3_eq]
  show (256 * d.val ≤ (i 0).val ∧ (i 0).val < 256 * d.val + 256) ∧ (0 ≤ (i 1).val ∧ (i 1).val < 0 + 512) ↔ _
  omega

/-- Different devices fill different rows. -/
theorem rowSet_disjoint {d d' : Dev nD} (h : d ≠ d') : Disjoint (rowSet d) (rowSet d') :=
  Finset.disjoint_left.mpr fun i hi hi' => h (Fin.ext (((mem_rowSet d i).mp hi).symm.trans ((mem_rowSet d' i).mp hi')))

/-- The four devices fill every row. -/
theorem rowSet_cover : Finset.univ.biUnion rowSet = (Finset.univ : Finset S1024x512.Idx) :=
  Finset.eq_univ_of_forall fun i => Finset.mem_biUnion.mpr
    ⟨⟨(i 0).val / 256, by have : (i 0).val < 1024 := (i 0).isLt; show _ < 4; omega⟩, Finset.mem_univ _, (mem_rowSet _ i).mpr rfl⟩

/-! ## The contents -/

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- The token block device `c` stages. -/
def xstg (c : Dev nD) : (cc0_stg0_0 : Ref sig .tc).ty.Contents (Elt F) :=
  (win0_0.blk (0 : Fin 1)).view.read (Elt F) (m ((c : Thread nD τ).loc main_arg0))
/-- The expert indices it stages. -/
def rstg (c : Dev nD) : (cc0_stg1_0 : Ref sig .tc).ty.Contents (Elt F) :=
  (win0_1.blk (0 : Fin 1)).view.read (Elt F) (m ((c : Thread nD τ).loc main_arg2))
/-- The expert matrices it stages. -/
def wstg (c : Dev nD) : (cc0_stg2_0 : Ref sig .tc).ty.Contents (Elt F) :=
  (win0_2.blk (0 : Fin 1)).view.read (Elt F) (m ((c : Thread nD τ).loc main_arg3))

/-- The buffer slot of every token, or minus one, from the expert indices: the kernel's payloads composed. -/
def slotOf (r : Vec F S1024x1 .i32) : IVec S1024x1 32 :=
  k0_pay9 (k0_pay3 (k0_pay2 r)) (k0_pay4 (k0_pay2 r)) (k0_pay5 (k0_pay1 r)) (k0_pay6 (k0_pay1 r)) (k0_pay7 (k0_pay1 r)) (k0_pay8 (k0_pay1 r))

/-- The first row of device `c`'s part of the buffer, as the word the kernel computes. -/
def baseWord (c : Dev nD) : BitVec 32 := Scalar.muli (Scalar.remsi (Scalar.divsi (Dev.word c) 1#32) 4#32) 256#32

/-- The columns of the one-hot matrix that device `c` computes first: those of its own slots. -/
def ownCols (c : Dev nD) (r : Vec F S1024x1 .i32) : FVec F S1024x256 .bf16 :=
  k0_pay10 (baseWord c) (k0_pay3 (k0_pay2 r)) (k0_pay4 (k0_pay2 r)) (k0_pay5 (k0_pay1 r)) (k0_pay6 (k0_pay1 r)) (k0_pay7 (k0_pay1 r)) (k0_pay8 (k0_pay1 r))

/-- One of the four expert matrices of a staged block. -/
def expert (c : Dev nD) (e : Fin 4) : Vec F S1x256x512 .bf16 :=
  match e with
  | 0 => wM.view.readAt (Elt F) (Rect.unit (s := S4x256x512) ![0, 0, 0] S1x256x512.size inb_S4x256x512_S1x256x512_0_0_0).toLoadRect (wstg m c)
  | 1 => wM.view.readAt (Elt F) (Rect.unit (s := S4x256x512) ![1, 0, 0] S1x256x512.size inb_S4x256x512_S1x256x512_1_0_0).toLoadRect (wstg m c)
  | 2 => wM.view.readAt (Elt F) (Rect.unit (s := S4x256x512) ![2, 0, 0] S1x256x512.size inb_S4x256x512_S1x256x512_2_0_0).toLoadRect (wstg m c)
  | 3 => wM.view.readAt (Elt F) (Rect.unit (s := S4x256x512) ![3, 0, 0] S1x256x512.size inb_S4x256x512_S1x256x512_3_0_0).toLoadRect (wstg m c)

/-- The 64 rows device `c` computes for its expert `e`. -/
def piece (c : Dev nD) (e : Fin 4) : FVec F S64x512 .bf16 :=
  match e with
  | 0 => k0_pay12 (ownCols c (rstg m c)) (xstg m c) (expert m c 0)
  | 1 => k0_pay14 (k0_pay13 (ownCols c (rstg m c)) (xstg m c) (expert m c 1))
  | 2 => k0_pay15 (k0_pay11 (ownCols c (rstg m c)) (xstg m c)) (expert m c 2)
  | 3 => k0_pay16 (k0_pay11 (ownCols c (rstg m c)) (xstg m c)) (expert m c 3)

/-- The device a row of the buffer belongs to, the expert on it, and the row and column within that expert's rows. -/
def rowDev (i : S1024x512.Idx) : Dev nD := ⟨(i 0).val / 256, by have : (i 0).val < 1024 := (i 0).isLt; show _ < 4; omega⟩
def rowExp (i : S1024x512.Idx) : Fin 4 := ⟨(i 0).val % 256 / 64, by omega⟩
def rowIn (i : S1024x512.Idx) : S64x512.Idx := fun a => match a with
  | ⟨0, _⟩ => ⟨(i 0).val % 64, Nat.mod_lt _ (by decide)⟩
  | ⟨1, _⟩ => i 1

/-- The expert-result buffer when all rows are in: row `256 d + 64 e + j` is row `j` of device `d`'s rows for its expert
    `e`. It is the same on every device. -/
def allRows : (cc0_scratch1 : Ref sig .tc).ty.Contents (Elt F) := fun i : S1024x512.Idx => piece m (rowDev i) (rowExp i) (rowIn i)

/-- The whole one-hot matrix, from the expert indices. -/
def hotAll (c : Dev nD) : (cc0_scratch0 : Ref sig .tc).ty.Contents (Elt F) := k0_pay17 (F := F) (slotOf (rstg m c))

/-- A block of 256 columns of the one-hot matrix, and a block of 256 rows of the buffer, at the given offsets. -/
abbrev colsAt (c : Dev nD) (off : Fin 2 → Nat) (h : ∀ a, off a + S1024x256.size a ≤ S1024x1024.size a) : Vec F S1024x256 .bf16 :=
  pM.view.readAt (Elt F) (Rect.unit (s := S1024x1024) off S1024x256.size h).toLoadRect (hotAll m c)
abbrev rowsAt (off : Fin 2 → Nat) (h : ∀ a, off a + S256x512.size a ≤ S1024x512.size a) : Vec F S256x512 .bf16 :=
  yM.view.readAt (Elt F) (Rect.unit (s := S1024x512) off S256x512.size h).toLoadRect (allRows m)

/-- The result block after the device's own rows, and after each channel's. -/
def out0 (c : Dev nD) : FVec F S1024x512 .f32 := k0_pay18 (colsAt m c (k0_off1 c) (k0_off1_inb c)) (rowsAt m (k0_off4 c) (k0_off4_inb c))
def out1 (c : Dev nD) : FVec F S1024x512 .f32 := k0_pay19 (out0 m c) (colsAt m c (k0_off5 c 1#32) (k0_off5_inb c 0)) (rowsAt m (k0_off6 c 1#32) (k0_off6_inb c 0))
def out2 (c : Dev nD) : FVec F S1024x512 .f32 := k0_pay20 (out1 m c) (colsAt m c (k0_off7 c) (k0_off7_inb c)) (rowsAt m (k0_off8 c) (k0_off8_inb c))
def outAt (c : Dev nD) : (cc0_stg3_0 : Ref sig .tc).ty.Contents (Elt F) :=
  k0_pay21 (out2 m c) (colsAt m c (k0_off5 c 2#32) (k0_off5_inb c 1)) (rowsAt m (k0_off6 c 2#32) (k0_off6_inb c 1))

/-! ## The stores and the copies agree with `allRows` -/

/-- The 64 rows of expert `e` on device `c`, as the part of the buffer the kernel stores into. -/
abbrev pieceV (c : Dev nD) (e : Fin 4) :=
  (yM.access (Rect.unit (s := S1024x512) (k0_off2 c (BitVec.ofNat 32 (64 * e.val))) S64x512.size (k0_off2_inb c e)) : View sig .tc _ _ _)

/-- Where entry `j` of that part lies. -/
theorem pieceV_row (c : Dev nD) (e : Fin 4) (j : S64x512.Idx) :
    (((pieceV c e).emb j : S1024x512.Idx) 0).val = 256 * c.val + 64 * e.val + (j 0).val := by
  refine (ValueKit.view_emb_slice_whole_unit_val cc0_scratch1 _ _ (k0_off2_inb c e) j 0).trans ?_
  exact congrArg (· + (j 0).val) (congrFun (k0_off2_eq c e) 0)
theorem pieceV_col (c : Dev nD) (e : Fin 4) (j : S64x512.Idx) : (((pieceV c e).emb j : S1024x512.Idx) 1).val = (j 1).val := by
  refine (ValueKit.view_emb_slice_whole_unit_val cc0_scratch1 _ _ (k0_off2_inb c e) j 1).trans ?_
  exact (congrArg (· + (j 1).val) (congrFun (k0_off2_eq c e) 1)).trans (Nat.zero_add _)

/-- Read through that part, `allRows` is the expert's rows. -/
theorem piece_read (c : Dev nD) (e : Fin 4) : (pieceV c e).read (Elt F) (allRows m) = piece m c e := by
  funext j
  have hr := pieceV_row c e j
  have hc := pieceV_col c e j
  have hj : (j 0).val < 64 := (j 0).isLt
  show piece m (rowDev ((pieceV c e).emb j)) (rowExp ((pieceV c e).emb j)) (rowIn ((pieceV c e).emb j)) = _
  have h1 : rowDev ((pieceV c e).emb j) = c := Fin.ext (by show (((pieceV c e).emb j : S1024x512.Idx) 0).val / 256 = _; rw [hr]; omega)
  have h2 : rowExp ((pieceV c e).emb j) = e := Fin.ext (by show (((pieceV c e).emb j : S1024x512.Idx) 0).val % 256 / 64 = _; rw [hr]; omega)
  have h3 : rowIn ((pieceV c e).emb j) = j := by
    funext a
    match a with
    | ⟨0, _⟩ => exact Fin.ext (by show (((pieceV c e).emb j : S1024x512.Idx) 0).val % 64 = (j 0).val; rw [hr]; omega)
    | ⟨1, _⟩ => exact Fin.ext hc
  rw [h1, h2, h3]

/-- Writing what `g` reads through a view makes the contents agree with `g` there, and keeps any agreement elsewhere. -/
theorem write_agree {s : Shape} {e : EltTy} {sp : Space} (v : View sig .tc sp s e) (f g : v.ty.Contents (Elt F)) (A : Finset v.ty.Idx)
    (h : ∀ i ∈ A, f i = g i) : ∀ i ∈ A ∪ v.set, v.write (Elt F) f (v.read (Elt F) g) Finset.univ i = g i := fun i hi => by
  rw [View.write_read_eq_piecewise]
  by_cases hv : i ∈ v.setOn Finset.univ
  · exact Finset.piecewise_eq_of_mem _ _ _ hv
  · rw [Finset.piecewise_eq_of_notMem _ _ _ hv]
    exact h i ((Finset.mem_union.mp hi).resolve_right hv)

/-- A row of device `c` lies in one of the four stored parts. -/
theorem rowSet_sub (c : Dev nD) :
    ∀ i ∈ rowSet c, i ∈ (((∅ ∪ (pieceV c 0).set) ∪ (pieceV c 1).set) ∪ (pieceV c 2).set) ∪ (pieceV c 3).set := by
  intro i hi
  have hc := (mem_rowSet c i).mp hi
  have hm : ∀ e : Fin 4, (i 0).val % 256 / 64 = e.val → i ∈ (pieceV c e).set := fun e he => by
    rw [show (pieceV c e).set = (Rect.unit (s := S1024x512) (k0_off2 c (BitVec.ofNat 32 (64 * e.val))) S64x512.size (k0_off2_inb c e)).set from
      View.set_slice_whole _ _, Rect.mem_set_unit, k0_off2_eq]
    intro a
    have h1 : (i 1).val < 512 := (i 1).isLt
    match a with
    | ⟨0, _⟩ => show 256 * c.val + 64 * e.val ≤ (i 0).val ∧ (i 0).val < 256 * c.val + 64 * e.val + 64; omega
    | ⟨1, _⟩ => show 0 ≤ (i 1).val ∧ (i 1).val < 0 + 512; omega
  simp only [Finset.mem_union]
  have : (i 0).val % 256 / 64 < 4 := by omega
  rcases (by omega : (i 0).val % 256 / 64 = 0 ∨ (i 0).val % 256 / 64 = 1 ∨ (i 0).val % 256 / 64 = 2 ∨ (i 0).val % 256 / 64 = 3) with h | h | h | h
  · exact .inl (.inl (.inl (.inr (hm 0 h))))
  · exact .inl (.inl (.inr (hm 1 h)))
  · exact .inl (.inr (hm 2 h))
  · exact .inr (hm 3 h)

/-- The buffer after the four stores. -/
def stored (c : Dev nD) (f : (cc0_scratch1 : Ref sig .tc).ty.Contents (Elt F)) : (cc0_scratch1 : Ref sig .tc).ty.Contents (Elt F) :=
  (pieceV c 3).write (Elt F) ((pieceV c 2).write (Elt F) ((pieceV c 1).write (Elt F) ((pieceV c 0).write (Elt F) f
    (piece m c 0) Finset.univ) (piece m c 1) Finset.univ) (piece m c 2) Finset.univ) (piece m c 3) Finset.univ

/-- After the four stores the device's own rows are those of `allRows`. -/
theorem stored_agree (c : Dev nD) (f : (cc0_scratch1 : Ref sig .tc).ty.Contents (Elt F)) : ∀ i ∈ rowSet c, stored m c f i = allRows m i := by
  intro i hi
  unfold stored
  rw [← piece_read m c 0, ← piece_read m c 1, ← piece_read m c 2, ← piece_read m c 3]
  exact write_agree (pieceV c 3) _ _ _ (write_agree (pieceV c 2) _ _ _ (write_agree (pieceV c 1) _ _ _ (write_agree (pieceV c 0) f _ ∅
    (fun i h => absurd h (Finset.notMem_empty i))))) i (rowSet_sub c i hi)

/-- A copy of device `d`'s rows of `allRows` leaves those of `allRows` where it lands. -/
theorem landed_agree (d : Dev nD) (f : (cc0_scratch1 : Ref sig .tc).ty.Contents (Elt F)) :
    ∀ i ∈ rowSet d, (rowsM d).view.write (Elt F) f ((rowsM d).view.read (Elt F) (allRows m)) Finset.univ i = allRows m i := fun i hi =>
  write_agree (rowsM d).view f (allRows m) ∅ (fun i h => absurd h (Finset.notMem_empty i)) i (Finset.mem_union_right _ hi)

end Cert.Dispatch
-- ==== Proof.Protocol.lean ====
/- The schedule of the exchange: what every semaphore cell of a device counts, what each unit of it hands over, and what a
   device owes when it starts. -/
module

public import proofs.«01_k».proof.Proof.Contents
public import Idealize.ShloMosaic.Lib.Transfers

@[expose] public section

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra: the pipeline's copy and the exchange's, whose duties are the three channels -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The barrier semaphore of the collective. -/
abbrev barS : Sem sig := (SemArray.scalar (sig.barrier 0 rfl) : Sems sig S_).sem
/-- The semaphores counting what channel `k` has sent and received. -/
abbrev sendS (k : Fin 3) : DmaSem sig := ⟨k.val + 4, by have := k.isLt; show _ < 10; omega⟩
abbrev recvS (k : Fin 3) : DmaSem sig := ⟨k.val + 3 + 4, by have := k.isLt; show _ < 10; omega⟩

theorem send_slice0 : ((cc0_scratch2.slice (Rect.unit (s := S3) ![0] S1.size inb_S3_S1_0)).squeeze S_ squeezes_S1_S_).sem = sendS 0 := rfl
theorem send_slice1 : ((cc0_scratch2.slice (Rect.unit (s := S3) ![1] S1.size inb_S3_S1_1)).squeeze S_ squeezes_S1_S_).sem = sendS 1 := rfl
theorem send_slice2 : ((cc0_scratch2.slice (Rect.unit (s := S3) ![2] S1.size inb_S3_S1_2)).squeeze S_ squeezes_S1_S_).sem = sendS 2 := rfl
theorem recv_slice0 : ((cc0_scratch3.slice (Rect.unit (s := S3) ![0] S1.size inb_S3_S1_0)).squeeze S_ squeezes_S1_S_).sem = recvS 0 := rfl
theorem recv_slice1 : ((cc0_scratch3.slice (Rect.unit (s := S3) ![1] S1.size inb_S3_S1_1)).squeeze S_ squeezes_S1_S_).sem = recvS 1 := rfl
theorem recv_slice2 : ((cc0_scratch3.slice (Rect.unit (s := S3) ![2] S1.size inb_S3_S1_2)).squeeze S_ squeezes_S1_S_).sem = recvS 2 := rfl

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's own six semaphores: three sending, three receiving. -/
abbrev osem (j : Fin 6) : SemLoc sig := .dma ⟨j.val + 4, by have := j.isLt; show _ < 10; omega⟩
/-- With the barrier, the seven cells of a device. -/
abbrev csem (j : Fin 7) : SemLoc sig := match j with
  | ⟨0, _⟩ => .reg barS
  | ⟨i + 1, h⟩ => .dma ⟨i + 4, by show _ < 10; omega⟩
abbrev kcell (cj : Dev nD × Fin 7) : GSem nD τ sig := ((cj.1 : Thread nD τ), csem cj.2)
abbrev sendIx (k : Fin 3) : Fin 7 := ⟨k.val + 1, by have := k.isLt; omega⟩
abbrev recvIx (k : Fin 3) : Fin 7 := ⟨k.val + 3 + 1, by have := k.isLt; omega⟩

/-- The units one copy of a device's rows counts. -/
abbrev N : ℕ := (rowsM 0).view.dmaCredit
theorem N_pos : 0 < N := View.dmaCredit_pos _ (by decide)

/-! ## What is handed over -/

/-- Device `c`'s copy of device `d`'s rows, at share `q`, holding `f`. -/
def rowPts (q : PosShare TreeShare) (c d : Dev nD) (f : (cc0_scratch1 : Ref sig .tc).ty.Contents (Elt F)) : sProp 𝕄 :=
  (rowsM d).view.loc (c : Thread nD τ) ↦[(rowsM d).view.set]{q} f

instance rowPts_storable (q : PosShare TreeShare) (c d : Dev nD) (f) : BI.Storable (upEmb : UEmb _ 𝕄) (rowPts (F := F) q c d f) := by
  unfold rowPts; infer_instance

/-- Only the contents on the rows matter. -/
theorem rowPts_congr (q : PosShare TreeShare) (c d : Dev nD) {f g : (cc0_scratch1 : Ref sig .tc).ty.Contents (Elt F)} (h : ∀ i ∈ rowSet d, f i = g i) :
    rowPts q c d f = (rowPts q c d g : sProp 𝕄) := by
  unfold rowPts; exact pointsTo_congr h

/-- The channel-`k` peer's signal hands a device the peer's copy of the device's rows, to be written, and that the peer's
    receive cell is at its first round. -/
def barPay (d : Dev nD) (k : Fin 3) : sProp 𝕄 := iprop((∃ f, rowPts fullShare (peer k d) d f) ∗ reached ER (recvCell (peer k d) k) 0)
/-- A received copy hands over the peer's rows. -/
def recvPay (d : Dev nD) (k : Fin 3) : sProp 𝕄 := rowPts fullShare d (peer k d) (allRows m)
/-- A finished copy gives back the share of the device's own rows it was read at. -/
def sendPay (d : Dev nD) (k : Fin 3) : sProp 𝕄 := rowPts (shareTok fullShare 3 k) d d (allRows m)

/-- The channel a sending or receiving semaphore belongs to. -/
abbrev chan (s : DmaSem sig) : Fin 3 := ⟨(s.val + 2) % 3, Nat.mod_lt _ (by decide)⟩
theorem chan_send (k : Fin 3) : chan (sendS k) = k := by revert k; decide
theorem chan_recv (k : Fin 3) : chan (recvS k) = k := by revert k; decide

/-- One round. A barrier cell has a duty of one unit per channel; a sending or receiving cell one duty of the copy's units. -/
def sched : Rounds.Schedule (GSem nD τ sig) (Fin 3) 𝕄 where
  duties g r := if r = 0 ∧ g.1.2 = .tc then (match g.2 with
    | .reg _ => Finset.univ
    | .dma s => if 4 ≤ s.val then {0} else ∅) else ∅
  unitless _ := False
  amount g _ _ := match g.2 with | .reg _ => 1 | .dma _ => N
  payload g _ k := match g.2 with
    | .reg _ => barPay g.1.1 k
    | .dma s => if 7 ≤ s.val then recvPay m g.1.1 (chan s) else sendPay m g.1.1 (chan s)
  amount_pos g _ _ _ := by
    split
    · exact Nat.one_pos
    · exact N_pos

instance sched_payload_storable (g : GSem nD τ sig) (r : ℕ) (k : Fin 3) : BI.Storable (upEmb : UEmb _ 𝕄) ((sched (F := F) m).payload g r k) := by
  obtain ⟨t, s⟩ := g
  cases s with
  | reg s => show BI.Storable upEmb (barPay t.1 k); unfold barPay; infer_instance
  | dma s =>
    show BI.Storable upEmb (if 7 ≤ s.val then recvPay m t.1 (chan s) else sendPay m t.1 (chan s))
    unfold recvPay sendPay
    split <;> infer_instance

section Sched
variable (c : Dev nD) (k : Fin 3)

theorem duties_bar : (sched (F := F) m).duties (barCell c) 0 = Finset.univ := by dsimp only [sched]; exact if_pos ⟨rfl, rfl⟩
theorem duties_send : (sched (F := F) m).duties (sendCell c k) 0 = {0} := by
  dsimp only [sched]; rw [if_pos ⟨rfl, rfl⟩]; exact if_pos (Nat.le_add_left _ _)
theorem duties_recv : (sched (F := F) m).duties (recvCell c k) 0 = {0} := by
  dsimp only [sched]; rw [if_pos ⟨rfl, rfl⟩]; exact if_pos (Nat.le_add_left _ _)
theorem duties_later (g : GSem nD τ sig) : ∀ r, 1 ≤ r → (sched (F := F) m).duties g r = ∅ :=
  fun r hr => if_neg fun h => by have := h.1; omega

theorem amount_bar : (sched (F := F) m).amount (barCell c) 0 k = 1 := rfl
theorem amount_dma (s : DmaSem sig) : (sched (F := F) m).amount ((c : Thread nD τ), .dma s) 0 k = N := rfl

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = N := by
  unfold Schedule.expect Schedule.amountOf; rw [duties_send, Finset.sum_singleton, amount_dma]
theorem expect_recv : (sched (F := F) m).expect (recvCell c k) 0 = N := by
  unfold Schedule.expect Schedule.amountOf; rw [duties_recv, Finset.sum_singleton, amount_dma]

theorem payload_bar : (sched (F := F) m).payload (barCell c) 0 k = barPay c k := rfl
theorem payload_send (j : Fin 3) : (sched (F := F) m).payload (sendCell c k) 0 j = sendPay m c k := by
  dsimp only [sched]; rw [if_neg (by have := k.isLt; show ¬ 7 ≤ k.val + 4; omega), chan_send]
theorem payload_recv (j : Fin 3) : (sched (F := F) m).payload (recvCell c k) 0 j = recvPay m c k := by
  dsimp only [sched]; rw [if_pos (by show 7 ≤ k.val + 3 + 4; omega), chan_recv]

theorem bigSep_three (Φ : Fin 3 → sProp 𝕄) : bigSep Finset.univ Φ = iprop(Φ 0 ∗ Φ 1 ∗ Φ 2) :=
  bigSep_univ_eq_bigSepL [0, 1, 2] (by decide) (by decide) Φ

/-- All a barrier cell's round hands over: the three peers' signals. -/
theorem rest_bar : bigSep ((sched (F := F) m).duties (barCell c) 0 \ ∅) (fun k => (sched (F := F) m).payload (barCell c) 0 k)
    = iprop(barPay c 0 ∗ barPay c 1 ∗ barPay c 2) := by
  rw [Finset.sdiff_empty, duties_bar, bigSep_three]; rfl
theorem rest_send : bigSep ((sched (F := F) m).duties (sendCell c k) 0 \ ∅) (fun j => (sched (F := F) m).payload (sendCell c k) 0 j) = sendPay m c k := by
  rw [Finset.sdiff_empty, duties_send, bigSep_singleton, payload_send]
theorem rest_recv : bigSep ((sched (F := F) m).duties (recvCell c k) 0 \ ∅) (fun j => (sched (F := F) m).payload (recvCell c k) 0 j) = recvPay m c k := by
  rw [Finset.sdiff_empty, duties_recv, bigSep_singleton, payload_recv]

end Sched

/-! ## What each device owes at launch, and the order of waiting -/

/-- The copies a device still owes its peers before it starts the last two, the last one, or none of them. -/
def owe3 (c : Dev nD) : CellTallies nD τ sig Unit := tallyAt (recvCell (peer 2 c) 2) () N
def owe2 (c : Dev nD) : CellTallies nD τ sig Unit := owe3 c + tallyAt (recvCell (peer 1 c) 1) () N
def owe1 (c : Dev nD) : CellTallies nD τ sig Unit := owe2 c + tallyAt (recvCell (peer 0 c) 0) () N
/-- With the signals it owes them: the last, the last two, and all three. -/
def oweS2 (c : Dev nD) : CellTallies nD τ sig Unit := owe1 c + tallyAt (barCell (peer 2 c)) () 1
def oweS1 (c : Dev nD) : CellTallies nD τ sig Unit := oweS2 c + tallyAt (barCell (peer 1 c)) () 1
def O₀ (c : Dev nD) : CellTallies nD τ sig Unit := oweS1 c + tallyAt (barCell (peer 0 c)) () 1

def L (g : GSem nD τ sig) : Finset Unit := if g.1.2 = .tc then {()} else ∅
/-- Barrier cells come before receiving cells, the others before both. -/
def lv (g : GSem nD τ sig) (_ : Unit) : ℕ := match g.2 with | .reg _ => 1 | .dma s => if 7 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (k : Fin 3) (u : Unit) : lv (recvCell c k) u = 2 := by
  unfold lv; exact if_pos (by show 7 ≤ k.val + 3 + 4; omega)

/-- A sum of tallies is positive only where one of them is. -/
theorem tally_pos {A : CellTallies nD τ sig Unit} {g₀ g : GSem nD τ sig} {n : ℕ} {u : Unit} (h : 0 < (A + tallyAt g₀ () n) g u) :
    0 < A g u ∨ g = g₀ := by
  rw [Pi.add_apply, Finsupp.add_apply, tallyAt_apply] at h
  by_cases hg : g = g₀
  · exact .inr hg
  · rw [if_neg (fun h' => hg h'.1)] at h; exact .inl h

theorem owe1_pos {c : Dev nD} {g : GSem nD τ sig} {u : Unit} (h : 0 < owe1 c g u) : ∃ d k, g = recvCell d k := by
  rcases tally_pos h with h | h
  · rcases tally_pos h with h | h
    · unfold owe3 at h
      rw [tallyAt_apply] at h
      by_cases hg : g = recvCell (peer 2 c) 2
      · exact ⟨_, _, hg⟩
      · rw [if_neg (fun h' => hg h'.1)] at h; exact absurd h (Nat.lt_irrefl 0)
    · exact ⟨_, _, h⟩
  · exact ⟨_, _, h⟩

theorem O₀_pos {c : Dev nD} {g : GSem nD τ sig} {u : Unit} (h : 0 < O₀ c g u) : (∃ d k, g = recvCell d k) ∨ ∃ d, g = barCell d := by
  rcases tally_pos h with h | h
  · rcases tally_pos h with h | h
    · rcases tally_pos h with h | h
      · exact .inl (owe1_pos h)
      · exact .inr ⟨_, h⟩
    · exact .inr ⟨_, h⟩
  · exact .inr ⟨_, h⟩

/-- The pipeline's own waits are allowed: their cells come before all that is owed. -/
theorem mayWait_stage (c : Dev nD) (q : DmaSem sig) (hq : q.val < 7) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> exact Finset.mem_singleton_self _)
      (fun p hp => by rw [Finset.mem_singleton.mp hp]; exact le_of_eq (if_neg (Nat.not_le.mpr hq)))
      (fun g u hg => by
        rcases O₀_pos hg with ⟨d, k, rfl⟩ | ⟨d, rfl⟩
        · rw [lv_recv]; decide
        · rw [lv_bar]; decide)
  · rw [MayWait_zero]; iintro -; iempintro

/-- At its barrier wait a device owes copies only, whose cells come after the barrier. -/
theorem mayWait_bar (c : Dev nD) : (levAts L lv : sProp 𝕄) ⊢ MayWait (c : Thread nD τ) (.reg barS) () (owe1 c) :=
  MayOwe.of_cut (L := L) (lev := lv) 1 (fun p hp => by rw [Finset.mem_singleton.mp hp, L_tc]; exact Finset.mem_singleton_self _)
    (fun g u hg => by obtain ⟨d, k, rfl⟩ := owe1_pos hg; exact Finset.mem_singleton_self _)
    (fun p hp => by rw [Finset.mem_singleton.mp hp]; exact le_of_eq rfl)
    (fun g u hg => by obtain ⟨d, k, rfl⟩ := owe1_pos hg; rw [lv_recv]; decide)

/-! ## What a device starts from and ends with -/

/-- Every cell's invariant, at the names `K`, and that every cell has reached its first round. -/
def records (K : Dev nD × Fin 7 → ℕ) : sProp 𝕄 :=
  iprop((bigSep Finset.univ fun cj : Dev nD × Fin 7 => cellInv ER (sched m) (K cj) (kcell cj))
    ∗ bigSep Finset.univ fun cj : Dev nD × Fin 7 => reached ER (kcell cj) 0)

instance records_persistent (K : Dev nD × Fin 7 → ℕ) : BI.Persistent (records m K) := by unfold records; infer_instance

theorem inv_at (K : Dev nD × Fin 7 → ℕ) (cj : Dev nD × Fin 7) : records m K ⊢ cellInv ER (sched m) (K cj) (kcell cj) := by
  unfold records
  exact sep_elim_left.trans (bigSep_elim (Finset.mem_univ cj))
theorem reached_at (K : Dev nD × Fin 7 → ℕ) (cj : Dev nD × Fin 7) : records m K ⊢ reached ER (kcell cj) 0 := by
  unfold records
  exact sep_elim_right.trans (bigSep_elim (Finset.mem_univ cj))

/-- The tokens of the duties device `c` pays: its signal to each peer, its copy's arrival there, and its copy's end. -/
def payToks (c : Dev nD) : sProp 𝕄 :=
  iprop((bigSep Finset.univ fun k : Fin 3 => dutyTok ER (barCell (peer k c)) 0 k)
    ∗ (bigSep Finset.univ fun k : Fin 3 => dutyTok ER (recvCell (peer k c) k) 0 0)
    ∗ bigSep Finset.univ fun k : Fin 3 => dutyTok ER (sendCell c k) 0 0)

/-- The device's own position on each of its seven cells, and those tokens. -/
def linear (c : Dev nD) : sProp 𝕄 :=
  iprop((bigSep Finset.univ fun j : Fin 7 => atPos ER (kcell (c, j)) 0 ∅ 0) ∗ payToks c)

/-- What the kernel on device `c` starts from besides its buffers: the records, its positions and tokens, the credit for
    its four waits on its peers, and the order of waiting. -/
def start (c : Dev nD) : sProp 𝕄 :=
  iprop((∃ K, records m K ∗ linear c) ∗ (cred (tallyAt (barCell c) () 3) ∗ bigSep Finset.univ fun k : Fin 3 => cred (tallyAt (recvCell c k) () N)) ∗ levAts L lv)

/-- The two scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the kernel: the scratch buffers, and all seven counters at zero. -/
def Φ₁ (c : Dev nD) : sProp 𝕄 := iprop((bigSep Finset.univ fun j : Fin 7 => semVal (kcell (c, j)) 0) ∗ scratch c)

end Cert.Dispatch
-- ==== Proof.Body.lean ====
/- The kernel's body on one device, run from what the launch gives it to what it leaves: the signals, the stores of its own
   rows, the three copies, the sums over the four devices' rows, and the waits. -/
module

public import proofs.«01_k».proof.Proof.Protocol

@[expose] public section

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's proof data -/

/-- The arrays start as the memory has them; the three inputs stay as staged and the result block becomes `outAt`. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rstg m c
    | ⟨2, _⟩ => wstg m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reads, writes and where they fall -/

theorem zero2 : (![0, 0] : Fin 2 → Nat) = fun _ => 0 := funext fun a => by fin_cases a <;> rfl

/-- A block of 64 or of 256 rows inside device `d`'s rows. -/
theorem sub_rows {off size : Fin 2 → Nat} {h : ∀ a, off a + size a ≤ S1024x512.size a} (d : Dev nD)
    (h0 : 256 * d.val ≤ off 0) (h1 : off 0 + size 0 ≤ 256 * d.val + 256) :
    yM.view.setOn (Rect.unit (s := S1024x512) off size h).toLoadRect.set ⊆ rowSet d := fun i hi => by
  obtain ⟨x, hx, rfl⟩ := Finset.mem_map.mp hi
  have := Rect.mem_set_unit.mp hx 0
  exact (mem_rowSet d _).mpr (by show (x 0).val / 256 = _; omega)

theorem piece_sub (c : Dev nD) (e : Fin 4) : (pieceV c e).setOn Finset.univ ⊆ rowSet c := fun i hi => by
  obtain ⟨x, hx, rfl⟩ := Finset.mem_map.mp hi
  have := pieceV_row c e x
  have h2 : (x 0).val < 64 := (x 0).isLt
  exact (mem_rowSet c _).mpr (by rw [this]; omega)

theorem devs_eq (c : Dev nD) : (Finset.univ : Finset (Dev nD)) = [c, peer 0 c, peer 1 c, peer 2 c].toFinset ∧ [c, peer 0 c, peer 1 c, peer 2 c].Nodup := by
  revert c; decide

/-- The scratch buffer of expert results, dealt to the device itself and its three peers. -/
theorem rows_split (c : Dev nD) (f : (cc0_scratch1 : Ref sig .tc).ty.Contents (Elt F)) :
    (((c : Thread nD τ).loc cc0_scratch1) ↦{fullShare} f : sProp 𝕄)
      = iprop(rowPts fullShare c c f ∗ rowPts fullShare c (peer 0 c) f ∗ rowPts fullShare c (peer 1 c) f ∗ rowPts fullShare c (peer 2 c) f) := by
  have h := pointsTo_biUnion (Ix := Unit) (Name := ℕ) (U := UU) (Lvl := ℕ) (Val := Elt F) (ℓ := (c : Thread nD τ).loc cc0_scratch1) (q := fullShare) (f := f) (Finset.univ : Finset (Dev nD)) rowSet (fun d _ d' _ hd => rowSet_disjoint hd)
  rw [rowSet_cover] at h
  exact h.trans (bigSep_univ_eq_bigSepL _ (devs_eq c).1 (devs_eq c).2 _)

/-- A device's own rows, dealt into the share it keeps reading and one share per copy. -/
theorem own_split (c : Dev nD) (f : (cc0_scratch1 : Ref sig .tc).ty.Contents (Elt F)) :
    (rowPts fullShare c c f : sProp 𝕄) ⊢ iprop(rowPts (shareDrop fullShare 3) c c f ∗ rowPts (shareTok fullShare 3 0) c c f
      ∗ rowPts (shareTok fullShare 3 1) c c f ∗ rowPts (shareTok fullShare 3 2) c c f) := by
  refine (pointsTo_toks_split (ℓ := (rowsM c).view.loc (c : Thread nD τ)) (S := (rowsM c).view.set) fullShare 3).trans ?_
  rw [bigSep_three]; exact BI.Entails.refl _
theorem own_join (c : Dev nD) (f : (cc0_scratch1 : Ref sig .tc).ty.Contents (Elt F)) :
    iprop(rowPts (shareDrop fullShare 3) c c f ∗ rowPts (shareTok fullShare 3 0) c c f
      ∗ rowPts (shareTok fullShare 3 1) c c f ∗ rowPts (shareTok fullShare 3 2) c c f) ⊢ (rowPts fullShare c c f : sProp 𝕄) := by
  refine BI.Entails.trans ?_ (pointsTo_toks_join (ℓ := (rowsM c).view.loc (c : Thread nD τ)) (S := (rowsM c).view.set) fullShare 3)
  rw [bigSep_three]; exact BI.Entails.refl _

/-! ## One step each: a load of rows, a store of rows, a signal, a copy, a wait -/

section Steps

/-- Device `c` runs `p` to a state that satisfies `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Fin 7 → ℕ) (c : Dev nD)

theorem recvPay_eq (k : Fin 3) : (recvPay m c k : sProp 𝕄) = rowPts fullShare c (peer k c) (allRows m) := rfl
theorem sendPay_eq (k : Fin 3) : (sendPay m c k : sProp 𝕄) = rowPts (shareTok fullShare 3 k) c c (allRows m) := rfl

theorem credit_rows (d : Dev nD) : (rowsM d).view.dmaCredit = N := rfl

/-- A load inside device `d`'s rows. -/
theorem wp_load_rows {α : Type} {Q : α → sProp 𝕄} (d : Dev nD) (q : PosShare TreeShare) (f : (cc0_scratch1 : Ref sig .tc).ty.Contents (Elt F)) {r : LoadRect S1024x512}
    (hr : yM.view.setOn r.set ⊆ rowSet d) {hl : yM.view.LoadsAt r} {k : (r.shape.Idx → Elt F .bf16) → Prog (TpuEff nD τ sig (Elt F) Λ₀ .tc) α} :
    (rowPts q c d f : sProp 𝕄) ⊢ iprop((rowPts q c d f -∗ runs c (k (yM.view.readAt (Elt F) r f)) Q) -∗ runs c (.op (.load yM r hl) k) Q) :=
  wp_load 𝒱₀ (c : Thread nD τ) none Set.univ (m := yM) hr

/-- A store inside device `d`'s rows. -/
theorem wp_store_rows {α : Type} {Q : α → sProp 𝕄} (d : Dev nD) (f : (cc0_scratch1 : Ref sig .tc).ty.Contents (Elt F)) {r : Rect S1024x512} {w : r.shape.Idx → Elt F .bf16}
    (hr : (yM.access r).setOn Finset.univ ⊆ rowSet d) {hx : (yM.access r).Stores Finset.univ} {hm : (Finset.univ : Finset r.shape.Idx) = Finset.univ ∨ ∀ a, r.stride a = 1} {k : PUnit → Prog (TpuEff nD τ sig (Elt F) Λ₀ .tc) α} :
    (rowPts fullShare c d f : sProp 𝕄) ⊢ iprop((rowPts fullShare c d ((yM.access r : View sig .tc _ _ _).write (Elt F) f w Finset.univ) -∗ runs c (k ⟨⟩) Q)
      -∗ runs c (.op (.store yM r w Finset.univ hx hm) k) Q) :=
  wp_store 𝒱₀ (c : Thread nD τ) none Set.univ (m := yM) (r := r) (w := w) (Mk := Finset.univ) (hx := hx) (hm := hm) (k := k) (S := rowSet d) (f := f) hr

/-- The signal to the channel-`k` peer `n`, which hands over the device's copy of the peer's rows. -/
theorem wp_ready {α : Type} {Q : α → sProp 𝕄} (n : Dev nD) (k : Fin 3) (hn : n = peer k c) (O : CellTallies nD τ sig Unit) (W : Waits sig Unit)
    (f : (cc0_scratch1 : Ref sig .tc).ty.Contents (Elt F)) {kk : PUnit → Prog (TpuEff nD τ sig (Elt F) Λ₀ .tc) α} :
    iprop(records m K ∗ owes (c : Thread nD τ) (O + tallyAt (barCell (peer k c)) () 1) W ∗ dutyTok ER (barCell (peer k c)) 0 k ∗ rowPts fullShare c (peer k c) f)
      ⊢ iprop((owes (c : Thread nD τ) O W -∗ runs c (kk ⟨⟩) Q) -∗ runs c (.op (.semSignal (Dev.tc n) barS (1#32 : BitVec 32).toInt) kk) Q) := by
  subst hn
  iintro ⟨#HR, HO, Ht, Hrows⟩ Hk
  iapply (Rounds.wp_signal 𝒱₀ ER (sched m) (c : Thread nD τ) none (dst := (peer k c : Thread nD τ)) (κ := K (peer k c, 0))
      (d := k) (by rw [duties_bar]; exact Finset.mem_univ _) ((amount_bar m (peer k c) k).trans (by decide)) () O rfl) $$ [HO Ht Hrows]
  · isplitr; · iapply (inv_at m K (peer k c, 0)); iexact HR
    isplitl [HO]; · iexact HO
    isplitl [Ht]; · iexact Ht
    isplitl [Hrows]
    · rw [payload_bar]; unfold barPay; rw [peer_peer]
      isplitl [Hrows]; · iexists f; iexact Hrows
      iapply (reached_at m K (c, recvIx k)); iexact HR
    · iapply (reached_at m K (peer k c, 0)); iexact HR
  iexact Hk

/-- The copy of the device's own rows to its channel-`k` peer `n`. -/
theorem wp_send {α : Type} {Q : α → sProp 𝕄} (n : Dev nD) (k : Fin 3) (hn : n = peer k c) (O : CellTallies nD τ sig Unit) (W : Waits sig Unit)
    (f : (cc0_scratch1 : Ref sig .tc).ty.Contents (Elt F))
    {hsc : (rowsM c : Memref sig (Dev.tc n : Thread nD τ).2.kind .vmem S256x512 .bf16).view.ref.isScScratch = false}
    {hsrc : (rowsM c : Memref sig .tc .vmem S256x512 .bf16).view.WordExact} {hdst : (rowsM c : Memref sig .tc .vmem S256x512 .bf16).view.WordExact}
    {hsem : DmaTarget.Typed .vmem (.dma (recvS k)) (.remote (Dev.tc n : Thread nD τ) (rowsM c : Memref sig .tc .vmem S256x512 .bf16) (.dma (sendS k)) hsc)}
    {kk : PUnit → Prog (TpuEff nD τ sig (Elt F) Λ₀ .tc) α} :
    iprop(records m K ∗ rowPts (shareTok fullShare 3 k) c c (allRows m) ∗ rowPts fullShare (peer k c) c f
        ∗ owes (c : Thread nD τ) (O + tallyAt (recvCell (peer k c) k) () N) W ∗ dutyTok ER (sendCell c k) 0 0 ∗ dutyTok ER (recvCell (peer k c) k) 0 0)
      ⊢ iprop(((cred (tallyAt (sendCell c k) () N) ∗ owes (c : Thread nD τ) O W) -∗ runs c (kk ⟨⟩) Q)
        -∗ runs c (.op (.enqueueDma (rowsM c) (.remote (Dev.tc n : Thread nD τ) (rowsM c) (.dma (sendS k)) hsc) (.dma (recvS k)) hsrc hdst hsem) kk) Q) := by
  subst hn
  have hp1 : ((rowsM c).view.loc (c : Thread nD τ) ↦[(rowsM c).view.set]{shareTok fullShare 3 k} allRows m : sProp 𝕄)
      ⊢ (sched (F := F) m).payload (sendCell c k) 0 0 := by rw [payload_send]; unfold sendPay rowPts; exact BI.Entails.refl _
  have hp2 : ((rowsM c).view.loc (peer k c : Thread nD τ) ↦[(rowsM c).view.set]{fullShare}
        ((rowsM c).view.write (Elt F) f ((rowsM c).view.read (Elt F) (allRows m)) Finset.univ) : sProp 𝕄)
      ⊢ (sched (F := F) m).payload (recvCell (peer k c) k) 0 0 := by
    rw [payload_recv]; unfold recvPay; rw [peer_peer]
    exact Entails.of_eq (rowPts_congr fullShare (peer k c) c (landed_agree m c f))
  have hd1 : (0 : Fin 3) ∈ (sched (F := F) m).duties (sendCell c k) 0 := by rw [duties_send]; exact Finset.mem_singleton_self _
  have hd2 : (0 : Fin 3) ∈ (sched (F := F) m).duties (recvCell (peer k c) k) 0 := by rw [duties_recv]; exact Finset.mem_singleton_self _
  have hrule : iprop(cellInv ER (sched m) (K (c, sendIx k)) (sendCell c k) ∗ cellInv ER (sched m) (K (peer k c, recvIx k)) (recvCell (peer k c) k)
        ∗ rowPts (shareTok fullShare 3 k) c c (allRows m) ∗ rowPts fullShare (peer k c) c f
        ∗ owes (c : Thread nD τ) (O + tallyAt (recvCell (peer k c) k) () N) W ∗ dutyTok ER (sendCell c k) 0 0 ∗ reached ER (sendCell c k) 0
        ∗ dutyTok ER (recvCell (peer k c) k) 0 0 ∗ reached ER (recvCell (peer k c) k) 0)
      ⊢ iprop(((cred (tallyAt (sendCell c k) () N) ∗ owes (c : Thread nD τ) O W) -∗ runs c (kk ⟨⟩) Q)
        -∗ runs c (.op (.enqueueDma (rowsM c) (.remote (Dev.tc (peer k c) : Thread nD τ) (rowsM c) (.dma (sendS k)) hsc) (.dma (recvS k)) hsrc hdst hsem) kk) Q) := by
    unfold rowPts
    exact Rounds.wp_send_pointsTo 𝒱₀ ER (sched m) (c : Thread nD τ) none (κ₁ := K (c, sendIx k)) (κ₂ := K (peer k c, recvIx k))
      (r₁ := 0) (r₂ := 0) (d₁ := 0) (d₂ := 0) (fd := f) hd1 hd2
      () () N ((View.amount_dma _ _).trans (credit_rows c)) (amount_dma m c 0 _) (amount_dma m (peer k c) 0 _) O (O₀ := O + tallyAt (recvCell (peer k c) k) () N) (Eq.refl _) (W := W) hp1 hp2
  iintro ⟨#HR, Hs, Hd, HO, Ht1, Ht2⟩ Hk
  iapply hrule $$ [Hs Hd HO Ht1 Ht2]
  · isplitr; · iapply (inv_at m K (c, sendIx k)); iexact HR
    isplitr; · iapply (inv_at m K (peer k c, recvIx k)); iexact HR
    isplitl [Hs]; · iexact Hs
    isplitl [Hd]; · iexact Hd
    isplitl [HO]; · iexact HO
    isplitl [Ht1]; · iexact Ht1
    isplitr; · iapply (reached_at m K (c, sendIx k)); iexact HR
    isplitl [Ht2]; · iexact Ht2
    iapply (reached_at m K (peer k c, recvIx k)); iexact HR
  iexact Hk

/-- The wait for the channel-`k` peer's rows. -/
theorem wp_arrive {α : Type} {Q : α → sProp 𝕄} (k : Fin 3) (W : Waits sig Unit) {src dst : Memref sig .tc .vmem S256x512 .bf16} {hsrc : src.view.WordExact} {hdst : dst.view.WordExact}
    (hN : dst.view.dmaCredit = N) {kk : PUnit → Prog (TpuEff nD τ sig (Elt F) Λ₀ .tc) α} :
    iprop(records m K ∗ cred (tallyAt (recvCell c k) () N) ∗ owes (c : Thread nD τ) 0 W ∗ atPos ER (recvCell c k) 0 ∅ 0)
      ⊢ iprop(((owes (c : Thread nD τ) 0 (insert (SemLoc.dma (recvS k), ()) W) ∗ atPos ER (recvCell c k) (0 + 1) ∅ 0 ∗ rowPts fullShare c (peer k c) (allRows m))
          -∗ runs c (kk ⟨⟩) Q) -∗ runs c (.op (.waitDma2 (recvS k) src dst hsrc hdst) kk) Q) := by
  iintro ⟨#HR, Hc, HO, Hat⟩ Hk
  iapply (Rounds.wp_wait_rest_token 𝒱₀ ER (sched m) (c : Thread nD τ) none (κ := K (c, recvIx k))
      (wpE_waitDma2_eq 𝒱₀ (c : Thread nD τ) none Set.univ) (Set.mem_univ _) () (O := 0) (W := W) (R := 0) (m := 0) (T := ∅)
      (by rw [Nat.zero_add, hN, expect_recv])) $$ [Hc HO Hat]
  · isplitr; · iapply (inv_at m K (c, recvIx k)); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_recv m c k).trans (recvPay_eq m c k))); iexact Hpay

/-- The wait for the end of the copy to the channel-`k` peer. -/
theorem wp_sent {α : Type} {Q : α → sProp 𝕄} (k : Fin 3) (W : Waits sig Unit) {src dst : Memref sig .tc .vmem S256x512 .bf16} {hsrc : src.view.WordExact} {hdst : dst.view.WordExact}
    (hN : dst.view.dmaCredit = N) {kk : PUnit → Prog (TpuEff nD τ sig (Elt F) Λ₀ .tc) α} :
    iprop(records m K ∗ cred (tallyAt (sendCell c k) () N) ∗ owes (c : Thread nD τ) 0 W ∗ atPos ER (sendCell c k) 0 ∅ 0)
      ⊢ iprop(((owes (c : Thread nD τ) 0 (insert (SemLoc.dma (sendS k), ()) W) ∗ atPos ER (sendCell c k) (0 + 1) ∅ 0
            ∗ rowPts (shareTok fullShare 3 k) c c (allRows m)) -∗ runs c (kk ⟨⟩) Q)
          -∗ runs c (.op (.waitDma2 (sendS k) src dst hsrc hdst) kk) Q) := by
  iintro ⟨#HR, Hc, HO, Hat⟩ Hk
  iapply (Rounds.wp_wait_rest_token 𝒱₀ ER (sched m) (c : Thread nD τ) none (κ := K (c, sendIx k))
      (wpE_waitDma2_eq 𝒱₀ (c : Thread nD τ) none Set.univ) (Set.mem_univ _) () (O := 0) (W := W) (R := 0) (m := 0) (T := ∅)
      (by rw [Nat.zero_add, hN, expect_send])) $$ [Hc HO Hat]
  · isplitr; · iapply (inv_at m K (c, sendIx k)); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_send m c k).trans (sendPay_eq m c k))); iexact Hpay

/-- The wait for the three peers' signals: with them come the peers' copies of the device's own rows, to be written. -/
theorem wp_ready_wait {α : Type} {Q : α → sProp 𝕄} (W : Waits sig Unit) {kk : PUnit → Prog (TpuEff nD τ sig (Elt F) Λ₀ .tc) α} :
    iprop(records m K ∗ levAts L lv ∗ cred (tallyAt (barCell c) () 3) ∗ owes (c : Thread nD τ) (owe1 c) W ∗ atPos ER (barCell c) 0 ∅ 0)
      ⊢ iprop(((owes (c : Thread nD τ) (owe1 c) (insert (SemLoc.reg barS, ()) W) ∗ atPos ER (barCell c) (0 + 1) ∅ 0
            ∗ (∃ f, rowPts fullShare (peer 0 c) c f) ∗ (∃ f, rowPts fullShare (peer 1 c) c f) ∗ (∃ f, rowPts fullShare (peer 2 c) c f)) -∗ runs c (kk ⟨⟩) Q)
          -∗ runs c (.op (.semWait barS (3#32 : BitVec 32).toInt) kk) Q) := by
  iintro ⟨#HR, #Hlev, Hc, HO, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owe1 c) (W := W) (R := 0) (m := 0) (T := ∅)
      (by rw [expect_bar]; decide)) $$ [Hc HO Hat]
  · isplitr; · iapply (inv_at m K (c, 0)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨⟨H0, -⟩, ⟨H1, -⟩, ⟨H2, -⟩⟩
  iapply Hk
  isplitl [HO]; · iexact HO
  isplitl [Hat]; · iexact Hat
  isplitl [H0]; · iexact H0
  isplitl [H1]; · iexact H1
  iexact H2

end Steps

end Cert.Dispatch
-- ==== Proof.Sound.lean ====
/- The kernel's body on one device, run from what the launch gives it to what it leaves, one step per effect in program order. -/
module

public import proofs.«01_k».proof.Proof.Body

@[expose] public section

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole-buffer loads and stores -/

theorem read_x (f : (cc0_stg0_0 : Ref sig .tc).ty.Contents (Elt F)) :
    xM.view.readAt (Elt F) (Rect.unit (s := S1024x256) ![0, 0] S1024x256.size inb_S1024x256_S1024x256_0_0).toLoadRect f = f :=
  Memref.readAt_unit_zero (Elt F) cc0_stg0_0 zero2 _ f
theorem read_r (f : (cc0_stg1_0 : Ref sig .tc).ty.Contents (Elt F)) :
    rM.view.readAt (Elt F) (Rect.unit (s := S1024x1) ![0, 0] S1024x1.size inb_S1024x1_S1024x1_0_0).toLoadRect f = f :=
  Memref.readAt_unit_zero (Elt F) cc0_stg1_0 zero2 _ f
theorem read_o (f : (cc0_stg3_0 : Ref sig .tc).ty.Contents (Elt F)) :
    oM.view.readAt (Elt F) (Rect.unit (s := S1024x512) ![0, 0] S1024x512.size inb_S1024x512_S1024x512_0_0).toLoadRect f = f :=
  Memref.readAt_unit_zero (Elt F) cc0_stg3_0 zero2 _ f
theorem write_o (f w : (cc0_stg3_0 : Ref sig .tc).ty.Contents (Elt F)) :
    (oM.access (Rect.unit (s := S1024x512) ![0, 0] S1024x512.size inb_S1024x512_S1024x512_0_0) : View sig .tc _ _ _).write (Elt F) f w Finset.univ = w :=
  Memref.write_access_unit_zero_univ (Elt F) cc0_stg3_0 zero2 _ f w
theorem write_p (f w : (cc0_scratch0 : Ref sig .tc).ty.Contents (Elt F)) :
    (pM.access (Rect.unit (s := S1024x1024) ![0, 0] S1024x1024.size inb_S1024x1024_S1024x1024_0_0) : View sig .tc _ _ _).write (Elt F) f w Finset.univ = w :=
  Memref.write_access_unit_zero_univ (Elt F) cc0_scratch0 zero2 _ f w
/-- What a block of the one-hot matrix reads just after it was stored. -/
theorem read_own (c : Dev nD) (f : (cc0_scratch0 : Ref sig .tc).ty.Contents (Elt F)) (w : FVec F S1024x256 .bf16) :
    pM.view.readAt (Elt F) (Rect.unit (s := S1024x1024) (k0_off1 c) S1024x256.size (k0_off1_inb c)).toLoadRect
      ((pM.access (Rect.unit (s := S1024x1024) (k0_off1 c) S1024x256.size (k0_off1_inb c)) : View sig .tc _ _ _).write (Elt F) f w Finset.univ) = w :=
  View.read_write_univ _ _

/-- The device's own columns, as the body computes them. -/
theorem own_eq (c : Dev nD) (r : Vec F S1024x1 .i32) :
    k0_pay10 (F := F) (Scalar.muli (Scalar.remsi (Scalar.divsi (Dev.word c) 1#32) 4#32) 256#32) (k0_pay3 (k0_pay2 r)) (k0_pay4 (k0_pay2 r)) (k0_pay5 (k0_pay1 r))
      (k0_pay6 (k0_pay1 r)) (k0_pay7 (k0_pay1 r)) (k0_pay8 (k0_pay1 r)) = ownCols c r := rfl
/-- The four expert matrices. -/
theorem expert_0 (c : Dev nD) : wM.view.readAt (Elt F) (Rect.unit (s := S4x256x512) ![0, 0, 0] S1x256x512.size inb_S4x256x512_S1x256x512_0_0_0).toLoadRect (wstg m c) = expert m c 0 := rfl
theorem expert_1 (c : Dev nD) : wM.view.readAt (Elt F) (Rect.unit (s := S4x256x512) ![1, 0, 0] S1x256x512.size inb_S4x256x512_S1x256x512_1_0_0).toLoadRect (wstg m c) = expert m c 1 := rfl
theorem expert_2 (c : Dev nD) : wM.view.readAt (Elt F) (Rect.unit (s := S4x256x512) ![2, 0, 0] S1x256x512.size inb_S4x256x512_S1x256x512_2_0_0).toLoadRect (wstg m c) = expert m c 2 := rfl
theorem expert_3 (c : Dev nD) : wM.view.readAt (Elt F) (Rect.unit (s := S4x256x512) ![3, 0, 0] S1x256x512.size inb_S4x256x512_S1x256x512_3_0_0).toLoadRect (wstg m c) = expert m c 3 := rfl

section Pieces

variable (c : Dev nD) (e : Fin 4) (f : (cc0_scratch1 : Ref sig .tc).ty.Contents (Elt F)) (off : Fin 2 → Nat)
  (hoff : off = k0_off2 c (BitVec.ofNat 32 (64 * e.val))) {inb : ∀ a, off a + S64x512.size a ≤ S1024x512.size a}

include e hoff in
/-- The load and the store of the rows of one expert. -/
theorem wp_load_piece {α : Type} {Q : α → sProp 𝕄} {hl : yM.view.LoadsAt (Rect.unit (s := S1024x512) off S64x512.size inb).toLoadRect}
    {k : ((Rect.unit (s := S1024x512) off S64x512.size inb).toLoadRect.shape.Idx → Elt F .bf16) → Prog (TpuEff nD τ sig (Elt F) Λ₀ .tc) α} :
    (rowPts fullShare c c f : sProp 𝕄) ⊢ iprop((rowPts fullShare c c f
        -∗ runs c (k (yM.view.readAt (Elt F) (Rect.unit (s := S1024x512) off S64x512.size inb).toLoadRect f)) Q)
      -∗ runs c (.op (.load yM (Rect.unit (s := S1024x512) off S64x512.size inb).toLoadRect hl) k) Q) := by
  subst hoff
  have h0 : k0_off2 c (BitVec.ofNat 32 (64 * e.val)) 0 = 256 * c.val + 64 * e.val := congrFun (k0_off2_eq c e) 0
  have he := e.isLt
  exact wp_load_rows c c fullShare f (sub_rows c (by rw [h0]; omega) (by rw [h0]; show _ + 64 ≤ _; omega))
include hoff in
theorem wp_store_piece {α : Type} {Q : α → sProp 𝕄} {w : S64x512.Idx → Elt F .bf16} (hw : w = piece m c e)
    {hx : (yM.access (Rect.unit (s := S1024x512) off S64x512.size inb)).Stores Finset.univ}
    {hm : (Finset.univ : Finset (Rect.unit (s := S1024x512) off S64x512.size inb).shape.Idx) = Finset.univ ∨ ∀ a, (Rect.unit (s := S1024x512) off S64x512.size inb).stride a = 1}
    {k : PUnit → Prog (TpuEff nD τ sig (Elt F) Λ₀ .tc) α} :
    (rowPts fullShare c c f : sProp 𝕄) ⊢ iprop((rowPts fullShare c c ((pieceV c e).write (Elt F) f (piece m c e) Finset.univ) -∗ runs c (k ⟨⟩) Q)
      -∗ runs c (.op (.store yM (Rect.unit (s := S1024x512) off S64x512.size inb) w Finset.univ hx hm) k) Q) := by
  subst hoff hw
  exact wp_store_rows c c f (piece_sub c e)

end Pieces

theorem stored_rows (c : Dev nD) (f : (cc0_scratch1 : Ref sig .tc).ty.Contents (Elt F)) :
    (rowPts fullShare c c ((pieceV c 3).write (Elt F) ((pieceV c 2).write (Elt F) ((pieceV c 1).write (Elt F) ((pieceV c 0).write (Elt F) f
      (piece m c 0) Finset.univ) (piece m c 1) Finset.univ) (piece m c 2) Finset.univ) (piece m c 3) Finset.univ) : sProp 𝕄) ⊢ rowPts fullShare c c (allRows m) :=
  Entails.of_eq (rowPts_congr fullShare c c (stored_agree m c f))

/-- The whole one-hot matrix, and the four values the result block takes. -/
theorem hot_eq (c : Dev nD) : k0_pay17 (F := F) (k0_pay9 (k0_pay3 (k0_pay2 (rstg m c))) (k0_pay4 (k0_pay2 (rstg m c))) (k0_pay5 (k0_pay1 (rstg m c)))
    (k0_pay6 (k0_pay1 (rstg m c))) (k0_pay7 (k0_pay1 (rstg m c))) (k0_pay8 (k0_pay1 (rstg m c)))) = hotAll m c := rfl
theorem out0_eq (c : Dev nD) : k0_pay18 (colsAt m c (k0_off1 c) (k0_off1_inb c)) (rowsAt m (k0_off4 c) (k0_off4_inb c)) = out0 m c := rfl
theorem out1_eq (c : Dev nD) : k0_pay19 (out0 m c) (colsAt m c (k0_off5 c 1#32) (k0_off5_inb c 0)) (rowsAt m (k0_off6 c 1#32) (k0_off6_inb c 0)) = out1 m c := rfl
theorem out2_eq (c : Dev nD) : k0_pay20 (out1 m c) (colsAt m c (k0_off7 c) (k0_off7_inb c)) (rowsAt m (k0_off8 c) (k0_off8_inb c)) = out2 m c := rfl
theorem out3_eq (c : Dev nD) : k0_pay21 (out2 m c) (colsAt m c (k0_off5 c 2#32) (k0_off5_inb c 1)) (rowsAt m (k0_off6 c 2#32) (k0_off6_inb c 1)) = outAt m c := rfl

theorem owe3_eq (c : Dev nD) : owe3 c = 0 + tallyAt (recvCell (peer 2 c) 2) () N := (zero_add _).symm

/-- The device's own rows, and its peers', as the body addresses them. -/
theorem own_sub (c : Dev nD) :
    yM.view.setOn (Rect.unit (s := S1024x512) (k0_off4 c) S256x512.size (k0_off4_inb c)).toLoadRect.set ⊆ rowSet c :=
  have h0 : k0_off4 c 0 = 256 * c.val := by revert c; decide +kernel
  sub_rows c h0.ge (by rw [h0]; exact le_of_eq rfl)
theorem peer_sub0 (c : Dev nD) :
    yM.view.setOn (Rect.unit (s := S1024x512) (k0_off6 c 1#32) S256x512.size (k0_off6_inb c 0)).toLoadRect.set ⊆ rowSet (peer 0 c) :=
  have h0 : k0_off6 c 1#32 0 = 256 * (peer 0 c).val := congrFun (off6_0 c) 0
  sub_rows _ h0.ge (by rw [h0]; exact le_of_eq rfl)
theorem peer_sub1 (c : Dev nD) :
    yM.view.setOn (Rect.unit (s := S1024x512) (k0_off8 c) S256x512.size (k0_off8_inb c)).toLoadRect.set ⊆ rowSet (peer 1 c) :=
  have h0 : k0_off8 c 0 = 256 * (peer 1 c).val := congrFun (off8_eq c) 0
  sub_rows _ h0.ge (by rw [h0]; exact le_of_eq rfl)
theorem peer_sub2 (c : Dev nD) :
    yM.view.setOn (Rect.unit (s := S1024x512) (k0_off6 c 2#32) S256x512.size (k0_off6_inb c 1)).toLoadRect.set ⊆ rowSet (peer 2 c) :=
  have h0 : k0_off6 c 2#32 0 = 256 * (peer 2 c).val := congrFun (off6_1 c) 0
  sub_rows _ h0.ge (by rw [h0]; exact le_of_eq rfl)

/-! ## What the body starts from and leaves -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The seven positions, and the seven counters, one by one. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem positions (c : Dev nD) : (bigSep Finset.univ fun j : Fin 7 => (atPos ER (kcell (c, j)) 0 ∅ 0 : sProp 𝕄))
    = iprop(atPos ER (barCell c) 0 ∅ 0 ∗ atPos ER (sendCell c 0) 0 ∅ 0 ∗ atPos ER (sendCell c 1) 0 ∅ 0 ∗ atPos ER (sendCell c 2) 0 ∅ 0
        ∗ atPos ER (recvCell c 0) 0 ∅ 0 ∗ atPos ER (recvCell c 1) 0 ∅ 0 ∗ atPos ER (recvCell c 2) 0 ∅ 0) := bigSep_seven _
theorem counters (c : Dev nD) : (bigSep Finset.univ fun j : Fin 7 => (semVal (kcell (c, j)) 0 : sProp 𝕄))
    = iprop(semVal (barCell c) 0 ∗ semVal (sendCell c 0) 0 ∗ semVal (sendCell c 1) 0 ∗ semVal (sendCell c 2) 0
        ∗ semVal (recvCell c 0) 0 ∗ semVal (recvCell c 1) 0 ∗ semVal (recvCell c 2) 0) := bigSep_seven _

/-- A position at the end of its one round gives the counter back, at zero. -/
theorem close_cell (K : Dev nD × Fin 7 → ℕ) (cj : Dev nD × Fin 7) :
    iprop(records m K ∗ atPos ER (kcell cj) (0 + 1) ∅ 0) ⊢ (|={Set.univ}=> semVal (kcell cj) 0 : sProp 𝕄) := by
  iintro ⟨#HR, Hat⟩
  iapply (Rounds.cell_close ER (sched m) (Set.mem_univ (K cj)) (fun h => h) (R := 0 + 1) (duties_later m (kcell cj)))
  isplitr; · iapply (inv_at m K cj); iexact HR
  iexact Hat

section Body

variable (K : Dev nD × Fin 7 → ℕ)

def bodyPre (c : Dev nD) : sProp 𝕄 :=
  iprop(((records m K ∗ linear c) ∗ (cred (tallyAt (barCell c) () 3) ∗ bigSep Finset.univ fun k : Fin 3 => cred (tallyAt (recvCell c k) () N)) ∗ levAts L lv)
    ∗ scratch c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ c ∗ (dats m 0 c).owesAt () t0_0.succ ∗ stg c cc0_stg0_0 (xstg m c) ∗ stg c cc0_stg1_0 (rstg m c)
    ∗ stg c cc0_stg2_0 (wstg m c) ∗ stg c cc0_stg3_0 (outAt m c))

set_option maxHeartbeats 3200000 in
/-- The body runs from `bodyPre` to `bodyPost`. -/
theorem sound_body (c : Dev nD) (Kt : PUnit → sProp 𝕄) :
    iprop(bodyPre m K c ∗ (bodyPost m c -∗ Kt ⟨⟩))
      ⊢ runs c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  unfold runs
  simp only [cc0_body_eq_skeleton]; unfold cc0_body_skel
  simp only [k0_part7_eq_skeleton]; unfold k0_part7_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold bodyPre linear payToks scratch
  rw [positions, bigSep_three, bigSep_three, bigSep_three, bigSep_three]
  iintro ⟨⟨⟨⟨#HR, ⟨HaB, HaS0, HaS1, HaS2, HaV0, HaV1, HaV2⟩, ⟨HtB0, HtB1, HtB2⟩, ⟨HtV0, HtV1, HtV2⟩, ⟨HtS0, HtS1, HtS2⟩⟩,
      ⟨HcB, HcV0, HcV1, HcV2⟩, #Hlev⟩, ⟨⟨%fp, Hp⟩, ⟨%fy, Hy⟩⟩, Ho, ⟨%d0, %g0, %hg0, Hx⟩, ⟨%d1, %g1, %hg1, Hr⟩, ⟨%d2, %g2, %hg2, Hw⟩, ⟨%d3, %g3, %hg3, Hout⟩⟩, Hk⟩
  have hx : g0 = xstg m c := by rw [hg0]; unfold Dat.before; rw [if_pos (fetch0_0 t0_0)]; rfl
  have hr : g1 = rstg m c := by rw [hg1]; unfold Dat.before; rw [if_pos (fetch0_1 t0_0)]; rfl
  have hw : g2 = wstg m c := by rw [hg2]; unfold Dat.before; rw [if_pos (fetch0_2 t0_0)]; rfl
  subst hx hr hw
  unfold Dat.owesAt Pipeline.owesWithin
  icases Ho with ⟨%W, %hW, HO⟩
  rw [show (dats m 0 c).owed t0_0.castSucc = O₀ c from rfl]
  -- the signals: each peer gets the device's copy of that peer's rows
  ihave Hy := (Entails.of_eq (rows_split c fy)) $$ Hy
  icases Hy with ⟨Hy, Hy0, Hy1, Hy2⟩
  unfold O₀
  iapply (wp_ready m K c _ 0 (dev1_eq c) (oweS1 c) W fy) $$ [HO HtB0 Hy0]
  · isplitr; · iexact HR
    isplitl [HO]; · iexact HO
    isplitl [HtB0] <;> iassumption
  iintro HO
  unfold oweS1
  iapply (wp_ready m K c _ 1 (dev2_eq c) (oweS2 c) W fy) $$ [HO HtB1 Hy1]
  · isplitr; · iexact HR
    isplitl [HO]; · iexact HO
    isplitl [HtB1] <;> iassumption
  iintro HO
  unfold oweS2
  iapply (wp_ready m K c _ 2 (dev3_eq c) (owe1 c) W fy) $$ [HO HtB2 Hy2]
  · isplitr; · iexact HR
    isplitl [HO]; · iexact HO
    isplitl [HtB2] <;> iassumption
  iintro HO
  -- the expert indices, and the device's own columns of the one-hot matrix
  iapply (wp_load 𝒱₀ (c : Thread nD τ) none Set.univ (m := rM) (Finset.subset_univ _)) $$ Hr; iintro Hr
  rw [read_r]
  iapply (wp_load 𝒱₀ (c : Thread nD τ) none Set.univ (m := pM) (Finset.subset_univ _)) $$ Hp; iintro Hp
  iapply (wp_store 𝒱₀ (c : Thread nD τ) none Set.univ (m := pM) (r := Rect.unit (s := S1024x1024) (k0_off1 c) S1024x256.size (k0_off1_inb c)) (Mk := Finset.univ) (Finset.subset_univ _)) $$ Hp; iintro Hp
  iapply (wp_load 𝒱₀ (c : Thread nD τ) none Set.univ (m := pM) (Finset.subset_univ _)) $$ Hp; iintro Hp
  rw [read_own, own_eq]
  -- the tokens, and the four experts' rows one after the other
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [expert_0]
  iapply (wp_load_piece c 0 _ (k0_off2 c 0#32) rfl) $$ Hy; iintro Hy
  iapply (wp_store_piece m c 0 _ (k0_off2 c 0#32) rfl (w := k0_pay12 (ownCols c (rstg m c)) (xstg m c) (expert m c 0)) rfl) $$ Hy; iintro Hy
  iapply (wp_load 𝒱₀ (c : Thread nD τ) none Set.univ (m := wM) (Finset.subset_univ _)) $$ Hw; iintro Hw
  rw [expert_1]
  iapply (wp_load_piece c 1 _ (k0_off2 c 64#32) rfl) $$ Hy; iintro Hy
  iapply (wp_store_piece m c 1 _ (k0_off2 c 64#32) rfl (w := k0_pay14 (k0_pay13 (ownCols c (rstg m c)) (xstg m c) (expert m c 1))) rfl) $$ Hy; iintro Hy
  iapply (wp_load 𝒱₀ (c : Thread nD τ) none Set.univ (m := wM) (Finset.subset_univ _)) $$ Hw; iintro Hw
  rw [expert_2]
  iapply (wp_load_piece c 2 _ (k0_off2 c 128#32) rfl) $$ Hy; iintro Hy
  iapply (wp_store_piece m c 2 _ (k0_off2 c 128#32) rfl (w := k0_pay15 (k0_pay11 (ownCols c (rstg m c)) (xstg m c)) (expert m c 2)) rfl) $$ Hy; iintro Hy
  iapply (wp_load 𝒱₀ (c : Thread nD τ) none Set.univ (m := wM) (Finset.subset_univ _)) $$ Hw; iintro Hw
  rw [expert_3]
  iapply (wp_load_piece c 3 _ (k0_off2 c 192#32) rfl) $$ Hy; iintro Hy
  iapply (wp_store_piece m c 3 _ (k0_off2 c 192#32) rfl (w := k0_pay16 (k0_pay11 (ownCols c (rstg m c)) (xstg m c)) (expert m c 3)) rfl) $$ Hy; iintro Hy
  ihave Hy := (stored_rows m c fy) $$ Hy
  -- the peers are ready: the three copies
  iapply (wp_ready_wait m K c W) $$ [HcB HO HaB]
  · isplitr; · iexact HR
    isplitr; · iexact Hlev
    isplitl [HcB]; · iexact HcB
    isplitl [HO] <;> iassumption
  iintro ⟨HO, HaB, ⟨%f0, Hd0⟩, ⟨%f1, Hd1⟩, ⟨%f2, Hd2⟩⟩
  ihave Hy := (own_split c (allRows m)) $$ Hy
  icases Hy with ⟨Hy, Hs0, Hs1, Hs2⟩
  unfold owe1
  iapply (wp_send m K c _ 0 (dev4_eq c) (owe2 c) (insert (SemLoc.reg barS, ()) W) f0) $$ [HO Hs0 Hd0 HtS0 HtV0]
  · isplitr; · iexact HR
    isplitl [Hs0]; · iexact Hs0
    isplitl [Hd0]; · iexact Hd0
    isplitl [HO]; · iexact HO
    isplitl [HtS0] <;> iassumption
  iintro ⟨HcS0, HO⟩
  unfold owe2
  iapply (wp_send m K c _ 1 (dev5_eq c) (owe3 c) (insert (SemLoc.reg barS, ()) W) f1) $$ [HO Hs1 Hd1 HtS1 HtV1]
  · isplitr; · iexact HR
    isplitl [Hs1]; · iexact Hs1
    isplitl [Hd1]; · iexact Hd1
    isplitl [HO]; · iexact HO
    isplitl [HtS1] <;> iassumption
  iintro ⟨HcS1, HO⟩
  rw [owe3_eq c]
  iapply (wp_send m K c _ 2 (dev6_eq c) 0 (insert (SemLoc.reg barS, ()) W) f2) $$ [HO Hs2 Hd2 HtS2 HtV2]
  · isplitr; · iexact HR
    isplitl [Hs2]; · iexact Hs2
    isplitl [Hd2]; · iexact Hd2
    isplitl [HO]; · iexact HO
    isplitl [HtS2] <;> iassumption
  iintro ⟨HcS2, HO⟩
  -- the whole one-hot matrix, and the device's own rows
  iapply (wp_load 𝒱₀ (c : Thread nD τ) none Set.univ (m := pM) (Finset.subset_univ _)) $$ Hp; iintro Hp
  iapply (wp_store 𝒱₀ (c : Thread nD τ) none Set.univ (m := pM) (r := Rect.unit (s := S1024x1024) ![0, 0] S1024x1024.size inb_S1024x1024_S1024x1024_0_0) (Mk := Finset.univ) (Finset.subset_univ _)) $$ Hp; iintro Hp
  rw [write_p, hot_eq]
  iapply (wp_load 𝒱₀ (c : Thread nD τ) none Set.univ (m := pM) (Finset.subset_univ _)) $$ Hp; iintro Hp
  iapply (wp_load_rows c c _ (allRows m) (own_sub c)) $$ Hy; iintro Hy
  iapply (wp_load 𝒱₀ (c : Thread nD τ) none Set.univ (m := oM) (Finset.subset_univ _)) $$ Hout; iintro Hout
  iapply (wp_store 𝒱₀ (c : Thread nD τ) none Set.univ (m := oM) (r := Rect.unit (s := S1024x512) ![0, 0] S1024x512.size inb_S1024x512_S1024x512_0_0) (Mk := Finset.univ) (Finset.subset_univ _)) $$ Hout; iintro Hout
  rw [write_o, out0_eq]
  -- each channel: its rows arrive and are added
  iapply (wp_arrive m K c 0 _ (credit_rows c)) $$ [HcV0 HO HaV0]
  · isplitr; · iexact HR
    isplitl [HcV0]; · iexact HcV0
    isplitl [HO] <;> iassumption
  iintro ⟨HO, HaV0, Hy0⟩
  iapply (wp_load 𝒱₀ (c : Thread nD τ) none Set.univ (m := oM) (Finset.subset_univ _)) $$ Hout; iintro Hout
  rw [read_o]
  iapply (wp_load 𝒱₀ (c : Thread nD τ) none Set.univ (m := pM) (Finset.subset_univ _)) $$ Hp; iintro Hp
  iapply (wp_load_rows c (peer 0 c) fullShare (allRows m) (peer_sub0 c)) $$ Hy0; iintro Hy0
  iapply (wp_load 𝒱₀ (c : Thread nD τ) none Set.univ (m := oM) (Finset.subset_univ _)) $$ Hout; iintro Hout
  iapply (wp_store 𝒱₀ (c : Thread nD τ) none Set.univ (m := oM) (r := Rect.unit (s := S1024x512) ![0, 0] S1024x512.size inb_S1024x512_S1024x512_0_0) (Mk := Finset.univ) (Finset.subset_univ _)) $$ Hout; iintro Hout
  rw [write_o, out1_eq]
  iapply (wp_arrive m K c 1 _ (credit_rows c)) $$ [HcV1 HO HaV1]
  · isplitr; · iexact HR
    isplitl [HcV1]; · iexact HcV1
    isplitl [HO] <;> iassumption
  iintro ⟨HO, HaV1, Hy1⟩
  iapply (wp_load 𝒱₀ (c : Thread nD τ) none Set.univ (m := oM) (Finset.subset_univ _)) $$ Hout; iintro Hout
  rw [read_o]
  iapply (wp_load 𝒱₀ (c : Thread nD τ) none Set.univ (m := pM) (Finset.subset_univ _)) $$ Hp; iintro Hp
  iapply (wp_load_rows c (peer 1 c) fullShare (allRows m) (peer_sub1 c)) $$ Hy1; iintro Hy1
  iapply (wp_load 𝒱₀ (c : Thread nD τ) none Set.univ (m := oM) (Finset.subset_univ _)) $$ Hout; iintro Hout
  iapply (wp_store 𝒱₀ (c : Thread nD τ) none Set.univ (m := oM) (r := Rect.unit (s := S1024x512) ![0, 0] S1024x512.size inb_S1024x512_S1024x512_0_0) (Mk := Finset.univ) (Finset.subset_univ _)) $$ Hout; iintro Hout
  rw [write_o, out2_eq]
  iapply (wp_arrive m K c 2 _ (credit_rows c)) $$ [HcV2 HO HaV2]
  · isplitr; · iexact HR
    isplitl [HcV2]; · iexact HcV2
    isplitl [HO] <;> iassumption
  iintro ⟨HO, HaV2, Hy2⟩
  iapply (wp_load 𝒱₀ (c : Thread nD τ) none Set.univ (m := oM) (Finset.subset_univ _)) $$ Hout; iintro Hout
  rw [read_o]
  iapply (wp_load 𝒱₀ (c : Thread nD τ) none Set.univ (m := pM) (Finset.subset_univ _)) $$ Hp; iintro Hp
  iapply (wp_load_rows c (peer 2 c) fullShare (allRows m) (peer_sub2 c)) $$ Hy2; iintro Hy2
  iapply (wp_load 𝒱₀ (c : Thread nD τ) none Set.univ (m := oM) (Finset.subset_univ _)) $$ Hout; iintro Hout
  iapply (wp_store 𝒱₀ (c : Thread nD τ) none Set.univ (m := oM) (r := Rect.unit (s := S1024x512) ![0, 0] S1024x512.size inb_S1024x512_S1024x512_0_0) (Mk := Finset.univ) (Finset.subset_univ _)) $$ Hout; iintro Hout
  rw [write_o, out3_eq]
  -- the copies are done, and the shares they were read at come back
  iapply (wp_sent m K c 0 _ (credit_rows c)) $$ [HcS0 HO HaS0]
  · isplitr; · iexact HR
    isplitl [HcS0]; · iexact HcS0
    isplitl [HO] <;> iassumption
  iintro ⟨HO, HaS0, Hs0⟩
  iapply (wp_sent m K c 1 _ (credit_rows c)) $$ [HcS1 HO HaS1]
  · isplitr; · iexact HR
    isplitl [HcS1]; · iexact HcS1
    isplitl [HO] <;> iassumption
  iintro ⟨HO, HaS1, Hs1⟩
  iapply (wp_sent m K c 2 _ (credit_rows c)) $$ [HcS2 HO HaS2]
  · isplitr; · iexact HR
    isplitl [HcS2]; · iexact HcS2
    isplitl [HO] <;> iassumption
  iintro ⟨HO, HaS2, Hs2⟩
  ihave Hy := (own_join c (allRows m)) $$ [Hy Hs0 Hs1 Hs2]
  · isplitl [Hy]; · iexact Hy
    isplitl [Hs0]; · iexact Hs0
    isplitl [Hs1] <;> iassumption
  ihave Hy := (Entails.of_eq (rows_split c (allRows m)).symm) $$ [Hy Hy0 Hy1 Hy2]
  · isplitl [Hy]; · iexact Hy
    isplitl [Hy0]; · iexact Hy0
    isplitl [Hy1] <;> iassumption
  -- the seven counters are at zero
  imod (close_cell m K (c, 0)) $$ [HaB] with HaB
  · isplitr; · iexact HR
    iexact HaB
  imod (close_cell m K (c, sendIx 0)) $$ [HaS0] with HaS0
  · isplitr; · iexact HR
    iexact HaS0
  imod (close_cell m K (c, sendIx 1)) $$ [HaS1] with HaS1
  · isplitr; · iexact HR
    iexact HaS1
  imod (close_cell m K (c, sendIx 2)) $$ [HaS2] with HaS2
  · isplitr; · iexact HR
    iexact HaS2
  imod (close_cell m K (c, recvIx 0)) $$ [HaV0] with HaV0
  · isplitr; · iexact HR
    iexact HaV0
  imod (close_cell m K (c, recvIx 1)) $$ [HaV1] with HaV1
  · isplitr; · iexact HR
    iexact HaV1
  imod (close_cell m K (c, recvIx 2)) $$ [HaV2] with HaV2
  · isplitr; · iexact HR
    iexact HaV2
  rw [wp_ret]; imodintro
  iapply Hk
  unfold bodyPost Φ₁ Dat.owesAt Pipeline.owesWithin scratch
  rw [show (dats m 0 c).owed t0_0.succ = 0 from rfl, counters]
  isplitl [HaB HaS0 HaS1 HaS2 HaV0 HaV1 HaV2 Hp Hy]
  · isplitl [HaB HaS0 HaS1 HaS2 HaV0 HaV1 HaV2]
    · isplitl [HaB]; · iexact HaB
      isplitl [HaS0]; · iexact HaS0
      isplitl [HaS1]; · iexact HaS1
      isplitl [HaS2]; · iexact HaS2
      isplitl [HaV0]; · iexact HaV0
      isplitl [HaV1]; · iexact HaV1
      iexact HaV2
    isplitl [Hp]
    · iexists _; iexact Hp
    · iexists _; iexact Hy
  isplitl [HO]
  · iexists (insert (SemLoc.dma (sendS 2), ()) (insert (SemLoc.dma (sendS 1), ()) (insert (SemLoc.dma (sendS 0), ()) (insert (SemLoc.dma (recvS 2), ())
      (insert (SemLoc.dma (recvS 1), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Hout

def bodyPre' (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ runs c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hscr⟩, Ho⟩
  iapply (sound_body m K c fun _ => bodyPost m c)
  unfold bodyPre
  isplitr []
  · isplitl [Hg Hrest]
    · isplitl [Hg] <;> iassumption
    isplitl [Hscr] <;> iassumption
  · iintro H; iexact H

end Body

end Cert.Dispatch
-- ==== Proof.Run.lean ====
/- The launch: the cells and tokens minted for the exchange, dealt to the four devices, and the whole program's run. -/
module

public import proofs.«01_k».proof.Proof.Sound
public import Idealize.ShloMosaic.Lib.Pipeline.CollectiveSegs

@[expose] public section

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 7 → GSem nD τ sig) := fun a b h =>
  Prod.ext (congrArg (fun g : GSem nD τ sig => g.1.1) h) (csem_injective (congrArg Prod.snd h))

def allCells : Finset (GSem nD τ sig) := Finset.univ.map ⟨kcell, kcell_injective⟩

/-- The duty of channel `k` on a device's barrier (`0`), on its receiving (`1`) and on its sending (`2`) semaphore. -/
abbrev dutyAt (s : Fin 3 × Fin 3) : SemLoc sig × Fin 3 := match s.1 with
  | 0 => (.reg barS, s.2) | 1 => (.dma (recvS s.2), 0) | 2 => (.dma (sendS s.2), 0)
theorem dutyAt_injective : Function.Injective dutyAt := by decide
abbrev tokOf (x : Dev nD × (Fin 3 × Fin 3)) : GSem nD τ sig × ℕ × Fin 3 := (((x.1 : Thread nD τ), (dutyAt x.2).1), 0, (dutyAt x.2).2)
theorem tokOf_injective : Function.Injective tokOf := fun a b h =>
  Prod.ext (congrArg (fun x : GSem nD τ sig × ℕ × Fin 3 => x.1.1.1) h)
    (dutyAt_injective (congrArg (fun x : GSem nD τ sig × ℕ × Fin 3 => (x.1.2, x.2.2)) h))
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of the duties on device `c`'s own cells. -/
def ownToks (c : Dev nD) : sProp 𝕄 :=
  iprop((bigSep Finset.univ fun k : Fin 3 => dutyTok ER (barCell c) 0 k)
    ∗ (bigSep Finset.univ fun k : Fin 3 => dutyTok ER (recvCell c k) 0 0)
    ∗ bigSep Finset.univ fun k : Fin 3 => dutyTok ER (sendCell c k) 0 0)

/-- A device's positions, each at the start of the first round. -/
def atFirst (c : Dev nD) : sProp 𝕄 :=
  bigSep Finset.univ fun j : Fin 7 => iprop(atPos ER (kcell (c, j)) 0 ∅ 0 ∗ reached ER (kcell (c, j)) 0)

/-- A device's part of what is minted. -/
def G (c : Dev nD) : sProp 𝕄 :=
  iprop((bigSep Finset.univ fun j : Fin 7 => roundState ER (sched m) (kcell (c, j)) 0) ∗ atFirst c ∗ ownToks c)

/-- A device's part once the cells' invariants stand and the tokens are with those who pay them. -/
def G' (c : Dev nD) : sProp 𝕄 := iprop(∃ K, records m K ∗ linear c)

/-- What is minted is every device's part. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Fin 7 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    unfold ownToks; rw [bigSep_univ_prod, bigSep_three]; rfl
  iintro H
  imod (Rounds.fund ER (sched m) allCells allToks) $$ H with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G atFirst; simp only [bigSep_sep']
  isplitl [Hst']; · iexact Hst'
  isplitl [Hat' Hr']
  · isplitl [Hat'] <;> iassumption
  iexact Htok'

/-! ## The counters -/

/-- The kernel's own six counters; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the barrier's is the one that outlives the kernel; -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- together they are the seven cells' counters. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun j : Fin 7 => semVal (kcell (c, j)) 0 : sProp 𝕄) := by
  rw [ownSems0_eq, unscopedSems0_eq, counters]

/-! ## The invariants, and the tokens to those who pay -/

/-- Device `c`'s counters and round states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (sched m) κ (kcell (c, j)))) ∗ atFirst c ∗ ownToks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun j : Fin 7 => semVal (kcell (c, j)) 0) ∗ bigSep Finset.univ fun j : Fin 7 => roundState ER (sched m) (kcell (c, j)) 0)
      ⊢ (|={Set.univ}=> bigSep Finset.univ fun j => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- One thing per device and channel may be counted at the channel's peers instead. -/
theorem at_peers (Φ : Dev nD → Fin 3 → sProp 𝕄) :
    (bigSep Finset.univ fun c : Dev nD => bigSep Finset.univ fun k : Fin 3 => Φ c k)
      = bigSep Finset.univ fun c : Dev nD => bigSep Finset.univ fun k : Fin 3 => Φ (peer k c) k := by
  simp only [bigSep_three, bigSep_sep']
  congr 1
  · exact bigSep_univ_equiv (swap 0) fun c => Φ c 0
  · congr 1
    · exact bigSep_univ_equiv (swap 1) fun c => Φ c 1
    · exact bigSep_univ_equiv (swap 2) fun c => Φ c 2

/-- The tokens of all cells are the tokens of all that is paid. -/
theorem toks_eq : (bigSep Finset.univ fun c : Dev nD => (ownToks c : sProp 𝕄)) = bigSep Finset.univ fun c : Dev nD => payToks c := by
  unfold ownToks payToks
  rw [bigSep_sep', bigSep_sep', bigSep_sep', bigSep_sep',
    at_peers fun (c : Dev nD) k => (dutyTok ER (barCell c) 0 k : sProp 𝕄), at_peers fun (c : Dev nD) k => (dutyTok ER (recvCell c k) 0 0 : sProp 𝕄)]

/-- What may be copied goes with every part. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (sched m) κ (kcell (c, j)))) ∗ atFirst c ∗ ownToks c) : sProp 𝕄)
      ⊢ bigSep Finset.univ (G' m) := by
  unfold atFirst
  rw [bigSep_sep', bigSep_sep', toks_eq, ← bigSep_univ_prod (fun cj : Dev nD × Fin 7 => iprop(∃ κ : ℕ, cellInv ER (sched m) κ (kcell cj))),
    bigSep_congr (s := Finset.univ) (fun (c : Dev nD) _ => bigSep_sep' Finset.univ (fun j : Fin 7 => (atPos ER (kcell (c, j)) 0 ∅ 0 : sProp 𝕄)) (fun j => reached ER (kcell (c, j)) 0)),
    bigSep_sep', ← bigSep_univ_prod (fun cj : Dev nD × Fin 7 => (reached ER (kcell cj) 0 : sProp 𝕄))]
  iintro ⟨HI, ⟨Hat, #HR⟩, Htok⟩
  ihave HK := (BI.bigSep_exists_pi Finset.univ (fun (cj : Dev nD × Fin 7) (κ : ℕ) => (cellInv ER (sched m) κ (kcell cj) : sProp 𝕄))) $$ HI
  icases HK with ⟨%K, #HI⟩
  iapply (with_each (R := records m K) (Φ := linear) fun c _ => show iprop(records m K ∗ linear c) ⊢ G' m c by
    unfold G'; iintro H; iexists K; iexact H)
  isplitr
  · unfold records; isplitl; · iexact HI
    iexact HR
  · unfold linear; rw [bigSep_sep']
    isplitl [Hat]; · iexact Hat
    iexact Htok

/-- From every device's counters and part to every device's part with the invariants standing. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices together owe each cell -/

theorem recv_ne_bar (c d : Dev nD) (k : Fin 3) : recvCell c k ≠ barCell d := fun h => by cases congrArg Prod.snd h

theorem recv_eq {c d : Dev nD} {j k : Fin 3} (h : recvCell c j = recvCell d k) : c = d ∧ j = k :=
  have h' := kcell_injective (a₁ := (c, recvIx j)) (a₂ := (d, recvIx k)) h
  ⟨congrArg Prod.fst h', Fin.ext (by have := congrArg (fun x : Dev nD × Fin 7 => x.2.val) h'; dsimp only at this; omega)⟩

/-- A signal to the channel-`k` peer counts at a barrier whose device has the debtor for its channel-`k` peer; -/
theorem signal_at (A : CellTallies nD τ sig Unit) (d c : Dev nD) (k : Fin 3) :
    (A + tallyAt (barCell (peer k d)) () 1) (barCell c) () = A (barCell c) () + if d = peer k c then 1 else 0 := by
  rw [Pi.add_apply, Finsupp.add_apply, tallyAt_apply]
  congr 1
  by_cases h : d = peer k c
  · subst h; rw [peer_peer, if_pos ⟨rfl, rfl⟩, if_pos rfl]
  · rw [if_neg fun h' => h (by rw [← peer_peer k d]; exact congrArg (peer k) (congrArg (fun g : GSem nD τ sig => g.1.1) h'.1).symm), if_neg h]

/-- and not at a receiving semaphore. -/
theorem signal_off (A : CellTallies nD τ sig Unit) (d c : Dev nD) (k : Fin 3) :
    (A + tallyAt (barCell d) () 1) (recvCell c k) () = A (recvCell c k) () := by
  rw [Pi.add_apply, Finsupp.add_apply, tallyAt_apply, if_neg fun h => recv_ne_bar _ _ _ h.1, Nat.add_zero]

/-- A copy to the channel-`j` peer counts at that peer's channel-`j` receiving semaphore. -/
theorem copy_at (d c : Dev nD) (j k : Fin 3) :
    (tallyAt (recvCell (peer j d) j) () N : CellTallies nD τ sig Unit) (recvCell c k) () = if j = k then (if d = peer k c then N else 0) else 0 := by
  rw [tallyAt_apply]
  by_cases hj : j = k
  · subst hj
    rw [if_pos rfl]
    by_cases h : d = peer j c
    · subst h; rw [peer_peer, if_pos ⟨rfl, rfl⟩, if_pos rfl]
    · rw [if_neg fun h' => h (by rw [← peer_peer j d, (recv_eq h'.1).1]), if_neg h]
  · rw [if_neg fun h' => hj (recv_eq h'.1).2.symm, if_neg hj]

theorem owed_bar (d c : Dev nD) :
    O₀ d (barCell c) () = (if d = peer 2 c then 1 else 0) + (if d = peer 1 c then 1 else 0) + (if d = peer 0 c then 1 else 0) := by
  have h0 : owe1 d (barCell c) () = 0 := by
    by_contra h
    obtain ⟨d', k, hk⟩ := owe1_pos (Nat.pos_of_ne_zero h)
    exact recv_ne_bar _ _ _ hk.symm
  unfold O₀ oweS1 oweS2
  rw [signal_at, signal_at, signal_at, h0, Nat.zero_add]

theorem owed_recv (d c : Dev nD) (k : Fin 3) : O₀ d (recvCell c k) () = if d = peer k c then N else 0 := by
  unfold O₀ oweS1 oweS2 owe1 owe2 owe3
  rw [signal_off, signal_off, signal_off, Pi.add_apply, Finsupp.add_apply, Pi.add_apply, Finsupp.add_apply, copy_at, copy_at, copy_at]
  fin_cases k
  · exact Nat.zero_add _
  · exact (Nat.add_zero _).trans (Nat.zero_add _)
  · exact (Nat.add_zero _).trans (Nat.add_zero _)

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => N,
    if_pos (Finset.mem_univ _)]

/-- A device's credit: its three peers' signals, and the three copies into it. -/
theorem creds (c : Dev nD) :
    (Pipeline.launchCred O₀ c : sProp 𝕄) ⊢ iprop(cred (tallyAt (barCell c) () 3) ∗ bigSep Finset.univ fun k : Fin 3 => cred (tallyAt (recvCell c k) () N)) := by
  have hinj : Function.Injective fun k : Fin 3 => (SemLoc.dma (recvS k) : SemLoc sig) := by decide
  unfold Pipeline.launchCred
  rw [bigSep_univ_at _ (SemLoc.reg barS), launch_bar]
  refine sep_mono_right ((bigSep_subset (t := Finset.univ.map ⟨fun k : Fin 3 => (SemLoc.dma (recvS k) : SemLoc sig), hinj⟩) fun s hs => ?_).trans ?_)
  · obtain ⟨k, -, rfl⟩ := Finset.mem_map.mp hs
    exact Finset.mem_erase.mpr ⟨fun h => (by cases h), Finset.mem_univ _⟩
  · rw [bigSep_map]
    exact bigSep_mono fun k _ => Entails.of_eq (congrArg cred (launch_recv c k))

/-! ## The launch's side conditions -/

/-- The kernel's unused second argument, at the contents it was given. -/
def unused (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ unused m c) := by
  rw [Pipeline.unscopedRestP_none, show (Pipeline.unscopedRest cfg0.spec c (fun b => m ((c : Thread nD τ).loc b)) : sProp 𝕄) = unused m c from unscopedRest0_eq c _]
  iintro ⟨Hu, Hlev, Hcr, -, HG⟩
  ihave Hc := (creds (F := F) c) $$ Hcr
  imodintro
  unfold start G'
  isplitr [Hu]
  · isplitl [HG]; · iexact HG
    isplitl [Hc]; · iexact Hc
    iexact Hlev
  · iexact Hu

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scratch c from scopedRest0_eq c]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show (Pipeline.scopedRest cfg0.spec c : sProp 𝕄) = scratch c from scopedRest0_eq c]
  unfold Φ₁
  rw [← sems0_eq]
  iintro ⟨⟨Hu, Ho⟩, Hr⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- At the end the counters that outlive the kernel are at zero and the unused argument is as it was. -/
def atEnd (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem read_end (c : Dev nD) (s' : Phys nD τ sig (Elt F)) :
    iprop(unscopedSems0 c ∗ unused m c ∗ SI s') ⊢ |={Set.univ}=> iprop(⌜atEnd m c s'.mem⌝ ∗ SI s' : sProp 𝕄) := by
  unfold unused
  iintro ⟨Hu, Ha, HSI⟩
  ihave %ha := (SI_pointsTo_agree (st := s')) $$ [HSI Ha]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => ha i (Finset.mem_univ i)⟩
  iexact HSI

/-! ## The run -/

/-- A window's array after the run. -/
def finalA (c : Dev nD) (w : Fin cfg0.W) : Buf (Elt F) ((cfg0.win w).arr.view.loc (c : Thread nD τ)) := (dats m 0 c).arrAt w cfg0.N

/-- Every window's array at its final contents, and the unused argument as it was. -/
def finals (r : PUnit × MemSt nD τ sig (Elt F)) : Prop :=
  (∀ (c : Dev nD) (w : Fin cfg0.W), r.2.mem ((cfg0.win w).arr.view.loc (c : Thread nD τ)) = finalA m c w)
    ∧ ∀ c : Dev nD, r.2.mem ((c : Thread nD τ).loc main_arg1) = m ((c : Thread nD τ).loc main_arg1)

set_option maxRecDepth 8000 in
/-- For any float values and from any memory whose counters are zero, the four devices' programs end under every fair
    schedule, with each window's array at its final contents, the unused argument unchanged and every counter at zero. -/
theorem run_launch : θ_run defs (onTc (τ := τ) (main (F := F))) (s₀ m ρ) (fun r => finals m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := unused m)
    (hX := start_intro m ρ) (hin := phi0_intro m) (hout := phi1_exit m)
    (QY := atEnd m) (hY := read_end m)
    (hQ := fun _ h hs => ⟨⟨fun c w => (h c).1 w, fun c => (h c).2.2.2⟩, sem_eq_zero hs fun c => (h c).2.2.1⟩)

/-! ## What the arrays hold -/

/-- The result array is the block the body left. -/
theorem result_eq (c : Dev nD) : finalA m c (3 : Fin 4) = outAt m c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  have h : (win0_3.blk (0 : Fin 1)).view.read (Elt F) (finalA m c (3 : Fin 4)) = outAt m c := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  rw [hr] at h
  exact h

/-- The staged blocks are the whole argument arrays. -/
theorem xstg_eq (c : Dev nD) : xstg m c = m ((c : Thread nD τ).loc main_arg0) :=
  Memref.read_access_unit_zero (Elt F) main_arg0 (funext fun a => by fin_cases a <;> decide) (fun a => by fin_cases a <;> decide) _
theorem rstg_eq (c : Dev nD) : rstg m c = m ((c : Thread nD τ).loc main_arg2) :=
  Memref.read_access_unit_zero (Elt F) main_arg2 (funext fun a => by fin_cases a <;> decide) (fun a => by fin_cases a <;> decide) _
theorem wstg_eq (c : Dev nD) : wstg m c = m ((c : Thread nD τ).loc main_arg3) :=
  Memref.read_access_unit_zero (Elt F) main_arg3 (funext fun a => by fin_cases a <;> decide) (fun a => by fin_cases a <;> decide) _

/-- A device's four argument arrays as they were. -/
def kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

/-- For any float values and from any memory whose counters are zero, the four devices' programs end under every fair
    schedule with each device's result at the computed contents, its arguments unchanged and every counter at zero. -/
theorem run_main : θ_run defs (onTc (τ := τ) (main (F := F))) (s₀ m ρ)
    (fun r => (∀ c : Dev nD, r.2.mem ((c : Thread nD τ).loc main_v1) = outAt m c ∧ kept m c r.2) ∧ r.2.sem = fun _ => 0) :=
  (θ_run _ _ _).mono (fun r h => ⟨fun c =>
    ⟨(h.1.1 c 3).trans (result_eq m c),
      (h.1.1 c 0).trans ((dats m 0 c).arrAt_in (0 : Fin 4) rfl _),
      h.1.2 c,
      (h.1.1 c 1).trans ((dats m 0 c).arrAt_in (1 : Fin 4) rfl _),
      (h.1.1 c 2).trans ((dats m 0 c).arrAt_in (2 : Fin 4) rfl _)⟩, h.2⟩) (run_launch m ρ)

end Cert.Dispatch
-- ==== Proof.Frames.lean ====
/- Every program runs to its end with its arguments unchanged and every counter at zero. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Dispatch

open Idealize.ShloMosaic Idealize.ShloMosaic.TcCoe Idealize.SL.Sem

/-- The idealized kernel's text over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, kept m c r.2) ∧ r.2.sem = fun _ => 0) :=
  (θ_run Cert.KernelIdeal.defs _ _).mono (fun _ h => ⟨fun c => (h.1 c).2, h.2⟩) (run_main m ρ)

/-- The idealized kernel. -/
theorem frame_ideal : Cert.quiescent_KernelIdeal := fun m ρ _ => frame_any (F := Ideal) m ρ

/-- The printed kernel's body is the idealized one's, -/
theorem body_eq : Cert.Kernel.cc0_body (F := Bits) = Cert.KernelIdeal.cc0_body := rfl

/-- so their body tables agree, -/
theorem table_eq : Cert.Kernel.defs₀ (F := Bits) = Cert.KernelIdeal.defs₀ := by
  refine congrArg (Defs.onTc (nD := Cert.Kernel.nD) (τ := Cert.Kernel.τ) (sig := Cert.Kernel.sig) (Val := Elt Bits) (Λ := Cert.Kernel.Λ₀)) ?_
  funext l y
  match l, y with
  | ⟨0, _⟩, (t, s) =>
    show Cert.Kernel.cc0_body _ _ _ _ _ _ _ _ _ _ _ _ _ _ = Cert.KernelIdeal.cc0_body _ _ _ _ _ _ _ _ _ _ _ _ _ _
    rw [body_eq]

/-- and so do their programs. -/
theorem defs_eq : Cert.Kernel.defs (F := Bits) = Cert.KernelIdeal.defs :=
  congrArg (Pipeline.defs (Cert.Kernel.pcfgs (F := Bits))) table_eq

/-- The printed kernel, whose text is the idealized kernel's. -/
theorem frame_kernel : Cert.quiescent_Kernel := fun m ρ _ => by
  rw [defs_eq]
  exact frame_any (F := Bits) m ρ

/-- The reference. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

end Cert.Dispatch
-- ==== Proof.Slots.lean ====
/- The buffer slot of every token. A token's rank is the number of earlier tokens that chose the same expert; a token
   whose rank is below the capacity gets slot `64 e + rank`, and every other token gets minus one. -/
module

public import proofs.«01_k».proof.Proof.Contents
public import Idealize.ShloMosaic.Lib.Pointwise

@[expose] public section

noncomputable section

namespace Cert.Dispatch

open Cert.KernelIdeal Cert.KernelIdeal.Gen
open Idealize.ShloMosaic Idealize.ShloMosaic.TcCoe

/-! ## The routing, its ranks and its slots -/

/-- The capacity of one expert. -/
abbrev capacity : ℕ := 51

/-- The expert words `r` are those of the routing `ex`. -/
def Routed (r : IVec S1024x1 32) (ex : Fin 1024 → Fin 16) : Prop := ∀ t, r (ix2 t 0) = BitVec.ofNat 32 (ex t).val

/-- The number of earlier tokens routed to the same expert as token `t`. -/
def rank (ex : Fin 1024 → Fin 16) (t : Fin 1024) : ℕ := (Finset.univ.filter fun s : Fin 1024 => s < t ∧ ex s = ex t).card

theorem rank_le (ex : Fin 1024 → Fin 16) (t : Fin 1024) : rank ex t ≤ 1024 :=
  (Finset.card_le_univ _).trans_eq (Fintype.card_fin 1024)

/-- An earlier token of the same expert has the smaller rank. -/
theorem rank_lt (ex : Fin 1024 → Fin 16) {s t : Fin 1024} (h : s < t) (he : ex s = ex t) : rank ex s < rank ex t := by
  refine Finset.card_lt_card (Finset.ssubset_iff_of_subset (fun u hu => ?_) |>.mpr ⟨s, ?_, ?_⟩)
  · rw [Finset.mem_filter] at hu ⊢
    exact ⟨hu.1, hu.2.1.trans h, hu.2.2.trans he⟩
  · exact Finset.mem_filter.mpr ⟨Finset.mem_univ _, h, he⟩
  · exact fun hm => lt_irrefl _ (Finset.mem_filter.mp hm).2.1

/-- The slot of a kept token. -/
def slot (ex : Fin 1024 → Fin 16) (t : Fin 1024) : ℕ := 64 * (ex t).val + rank ex t

/-- A kept token's slot lies in its expert's block of 64. -/
theorem slot_div {ex : Fin 1024 → Fin 16} {t : Fin 1024} (h : rank ex t < capacity) : slot ex t / 64 = (ex t).val := by
  unfold slot capacity at *; omega
theorem slot_lt {ex : Fin 1024 → Fin 16} {t : Fin 1024} (h : rank ex t < capacity) : slot ex t < 1024 := by
  have := (ex t).isLt
  unfold slot capacity at *; omega

/-- Two kept tokens never share a slot. -/
theorem slot_inj {ex : Fin 1024 → Fin 16} {s t : Fin 1024} (hs : rank ex s < capacity) (ht : rank ex t < capacity)
    (h : slot ex s = slot ex t) : s = t := by
  have he : ex s = ex t := Fin.ext (by rw [← slot_div hs, ← slot_div ht, h])
  have hk : rank ex s = rank ex t := by unfold slot at h; rw [he] at h; omega
  rcases lt_trichotomy s t with hl | hl | hl
  · exact absurd hk (rank_lt ex hl he).ne
  · exact hl
  · exact absurd hk.symm (rank_lt ex hl he.symm).ne

/-! ## Words and indicators -/

/-- A one-bit word widened and made a number is one or zero. -/
theorem indicator (b : BitVec 1) : (FloatOps.sitofp .f32 (b.setWidth 32) : Ideal .f32) = if b = 1#1 then (1 : EReal) else 0 := by
  have : ∀ b : BitVec 1, (b.setWidth 32).toInt = if b = 1#1 then 1 else 0 := by decide
  show (((b.setWidth 32).toInt : ℝ) : EReal) = _
  rw [this b]
  split <;> simp

theorem cmpi_eq_one {w : ℕ} (a b : BitVec w) : IntOp.cmpi .eq a b = 1#1 ↔ a = b := by
  show BitVec.ofBool (a == b) = 1#1 ↔ a = b
  by_cases h : a = b
  · subst h; simp
  · rw [show (a == b) = false from beq_eq_false_iff_ne.mpr h]
    exact ⟨fun e => absurd e (by decide), fun e => absurd e h⟩

/-- Words of small numbers agree when the numbers do. -/
theorem word_inj {a b : ℕ} (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

/-- The signed comparison of two positions. -/
theorem cmpi_pos (a b : Fin 1024) : IntOp.cmpi .sgt (BitVec.ofNat 32 a.val) (BitVec.ofNat 32 b.val) = 1#1 ↔ b < a := by
  have h : ∀ x : Fin 1024, (BitVec.ofNat 32 x.val).toInt = x.val := fun x => by
    have := x.isLt
    rw [BitVec.toInt_eq_toNat_cond, BitVec.toNat_ofNat]; omega
  show BitVec.ofBool ((BitVec.ofNat 32 b.val).slt (BitVec.ofNat 32 a.val)) = 1#1 ↔ b < a
  rw [BitVec.slt_eq_decide, h, h]
  by_cases hb : b < a <;> simp [hb]

/-- A count of the numbers `0 … 2^31 - 1` made a word. -/
theorem fptosi_nat (n : ℕ) (h : n ≤ 1024) : FloatOps.fptosi (F := Ideal) (φ := .f32) 32 (n : EReal) = BitVec.ofNat 32 n := by
  show BitVec.ofInt 32 (Ideal.toIntClamped _ _ ((n : EReal))) = _
  have : Ideal.toIntClamped (-(2 ^ (32 - 1) : Nat)) ((2 ^ (32 - 1) : Nat) - 1) (n : EReal) = n := by
    rw [show (n : EReal) = ((n : ℝ) : EReal) from rfl]
    show max _ (min _ (if (0 : ℝ) ≤ (n : ℝ) then ⌊(n : ℝ)⌋ else ⌈(n : ℝ)⌉)) = (n : ℤ)
    rw [if_pos (Nat.cast_nonneg n), Int.floor_natCast]
    omega
  rw [this, BitVec.ofInt_natCast]

/-- The kernel's capacity constant. -/
theorem capacity_bits : Ideal.ofBits .f32 0x424C0000#32 = ((capacity : ℕ) : EReal) := by
  rw [show ((capacity : ℕ) : EReal) = (((51 : ℕ) : ℝ) : EReal) from rfl]
  simp [Ideal.ofBits, Ideal.ieee]
  rw [← EReal.coe_mul]
  exact congrArg Real.toEReal (by norm_num)

/-! ## The kernel's payloads at a token -/

set_option maxRecDepth 16384

variable {r : IVec S1024x1 32} {ex : Fin 1024 → Fin 16}

/-- The kernel's ranks: entry `(t, e)` counts the earlier tokens of expert `e` if token `t` chose it, and is zero if not. -/
theorem ranks_at (hr : Routed r ex) (t : Fin 1024) (e : Fin 16) :
    k0_pay2 (F := Ideal) r (ix2 t e) = if ex t = e then ((rank ex t : ℕ) : EReal) else 0 := by
  have hw : ∀ s : Fin 1024, (IntOp.cmpi .eq (r (ix2 s 0)) (BitVec.ofNat 32 e.val) = 1#1) = (ex s = e) := fun s => by
    have h1 := (ex s).isLt
    have h2 := e.isLt
    rw [cmpi_eq_one, hr s, word_inj (by omega) (by omega), Fin.ext_iff]
  pointwise [k0_pay2, k0_pay1]
  simp only [indicator, hw, cmpi_pos]
  by_cases he : ex t = e
  · subst he
    simp only [if_true, mul_one]
    rw [show ((rank ex t : ℕ) : EReal) = ∑ s : Fin 1024, if s < t ∧ ex s = ex t then (1 : EReal) else 0 from (Finset.sum_boole _ _).symm]
    refine Finset.sum_congr rfl fun s _ => ?_
    by_cases h1 : s < t <;> by_cases h2 : ex s = ex t <;> simp [h1, h2]
  · simp [he]

/-- Summed over the experts, the token's own rank. -/
theorem rank_at (hr : Routed r ex) (t : Fin 1024) : k0_pay3 (F := Ideal) (k0_pay2 r) (ix2 t 0) = ((rank ex t : ℕ) : EReal) := by
  pointwise [k0_pay3]
  refine (Finset.sum_congr rfl fun e _ => ranks_at hr t e).trans ?_
  rw [Finset.sum_ite_eq, if_pos (Finset.mem_univ _)]

/-- The kernel's test of the rank against the capacity. -/
theorem keep_at (hr : Routed r ex) (t : Fin 1024) :
    k0_pay4 (F := Ideal) (k0_pay2 r) (ix2 t 0) = BitVec.ofBool (decide (rank ex t < capacity)) := by
  pointwise [k0_pay4]
  rw [rank_at hr t, capacity_bits]
  exact congrArg BitVec.ofBool (decide_eq_decide.mpr Nat.cast_lt)

/-- The first slot of the expert's device, and the expert's place there, in words. -/
theorem base_word (hr : Routed r ex) (t : Fin 1024) : k0_pay5 (k0_pay1 (F := Ideal) r) (ix2 t 0) = BitVec.ofNat 32 ((ex t).val / 4 * 256) := by
  pointwise [k0_pay5, k0_pay1]
  rw [hr t]
  generalize ex t = e
  revert e
  decide +kernel

theorem place_word (hr : Routed r ex) (t : Fin 1024) :
    Scalar.select (k0_pay7 (k0_pay1 (F := Ideal) r) (ix2 t 0)) (k0_pay8 (k0_pay1 (F := Ideal) r) (ix2 t 0)) (k0_pay6 (k0_pay1 (F := Ideal) r) (ix2 t 0))
      = BitVec.ofNat 32 ((ex t).val % 4) := by
  pointwise [k0_pay6, k0_pay7, k0_pay8, k0_pay1]
  rw [hr t]
  generalize ex t = e
  revert e
  decide +kernel

/-- The slot word of token `t`: its slot if it is kept, minus one if not. -/
theorem slotOf_at (hr : Routed r ex) (t : Fin 1024) :
    slotOf (F := Ideal) r (ix2 t 0) = if rank ex t < capacity then BitVec.ofNat 32 (slot ex t) else 4294967295#32 := by
  unfold slotOf
  pointwise [k0_pay9]
  rw [keep_at hr t, base_word hr t, place_word hr t, rank_at hr t, fptosi_nat _ (rank_le ex t)]
  by_cases h : rank ex t < capacity
  · rw [decide_eq_true h, if_pos h]
    show BitVec.ofNat 32 ((ex t).val / 4 * 256) + BitVec.ofNat 32 ((ex t).val % 4) * 64#32 + BitVec.ofNat 32 (rank ex t) = _
    rw [show (64#32 : BitVec 32) = BitVec.ofNat 32 64 from rfl, ← BitVec.ofNat_mul, ← BitVec.ofNat_add, ← BitVec.ofNat_add]
    exact congrArg (BitVec.ofNat 32) (by unfold slot; omega)
  · rw [decide_eq_false h, if_neg h]
    rfl

/-- The token has slot `n` exactly when it is kept and `n` is its slot. -/
theorem slotOf_eq_iff (hr : Routed r ex) (t : Fin 1024) {n : ℕ} (hn : n < 1024) :
    slotOf (F := Ideal) r (ix2 t 0) = BitVec.ofNat 32 n ↔ rank ex t < capacity ∧ slot ex t = n := by
  rw [slotOf_at hr t]
  by_cases h : rank ex t < capacity
  · have := slot_lt h
    rw [if_pos h, word_inj (by omega) (by omega)]
    exact ⟨fun e => ⟨h, e⟩, fun e => e.2⟩
  · rw [if_neg h, show (4294967295#32 : BitVec 32) = BitVec.ofNat 32 4294967295 from rfl, word_inj (by omega) (by omega)]
    exact ⟨fun e => absurd e (by omega), fun e => absurd e.1 h⟩

end Cert.Dispatch
-- ==== Proof.Value.lean ====
/- What the kernel's result block holds: for a kept token, the token times its expert's matrix; for every other token,
   zero. The one-hot products are read as selections, the buffer rows as gathered tokens times matrices. -/
module

public import proofs.«01_k».proof.Proof.Slots

@[expose] public section

set_option maxRecDepth 16384

noncomputable section

namespace Cert.Dispatch

open Cert.KernelIdeal Cert.KernelIdeal.Gen
open Idealize.ShloMosaic Idealize.ShloMosaic.TcCoe
open Idealize.SL Idealize.SL.Sem

/-- The dispatched product at token `t`, column `h`: the token times its expert's matrix if it is kept, zero if not. -/
def dispatched (x : S1024x256.Idx → EReal) (w : Fin 16 → Fin 256 → Fin 512 → EReal) (ex : Fin 1024 → Fin 16)
    (t : Fin 1024) (h : Fin 512) : EReal :=
  if rank ex t < capacity then ∑ k : Fin 256, x (ix2 t k) * w (ex t) k h else 0

/-- One if token `t` is kept and has slot `n`, zero if not. -/
def hot (ex : Fin 1024 → Fin 16) (t : Fin 1024) (n : ℕ) : EReal := if rank ex t < capacity ∧ slot ex t = n then 1 else 0

/-- The token that has slot `n`, column `k`, or zero if no token has. -/
def gathered (x : S1024x256.Idx → EReal) (ex : Fin 1024 → Fin 16) (n : ℕ) (k : Fin 256) : EReal :=
  ∑ t : Fin 1024, hot ex t n * x (ix2 t k)

/-- A kept token is the one gathered at its slot. -/
theorem gathered_slot (x : S1024x256.Idx → EReal) (ex : Fin 1024 → Fin 16) {t : Fin 1024} (h : rank ex t < capacity) (k : Fin 256) :
    gathered x ex (slot ex t) k = x (ix2 t k) := by
  unfold gathered hot
  rw [Finset.sum_eq_single t]
  · rw [if_pos ⟨h, rfl⟩, one_mul]
  · intro s _ hs
    rw [if_neg fun e => hs (slot_inj e.1 h e.2), zero_mul]
  · exact fun hn => absurd (Finset.mem_univ t) hn

/-! ## The one-hot matrices -/

variable {r : IVec S1024x1 32} {ex : Fin 1024 → Fin 16}

/-- The one-hot matrix over all slots. -/
theorem hotAll_at (hr : Routed r ex) (t n : Fin 1024) : k0_pay17 (F := Ideal) (slotOf (F := Ideal) r) (ix2 t n) = hot ex t n.val := by
  pointwise [k0_pay17]
  rw [indicator]
  exact if_congr ((cmpi_eq_one _ _).trans (slotOf_eq_iff hr t n.isLt)) rfl rfl

/-- A device's first slot. -/
theorem baseWord_eq (c : Dev nD) : baseWord c = BitVec.ofNat 32 (256 * c.val) := by revert c; decide +kernel

/-- The columns of it that device `c` computes first. -/
theorem ownCols_at (hr : Routed r ex) (c : Dev nD) (t : Fin 1024) (k : Fin 256) :
    ownCols (F := Ideal) c r (ix2 t k) = hot ex t (256 * c.val + k.val) := by
  have hc : c.val < 4 := c.isLt
  unfold ownCols
  pointwise [k0_pay10]
  rw [indicator, baseWord_eq]
  refine if_congr ((cmpi_eq_one _ _).trans ?_) rfl rfl
  show slotOf (F := Ideal) r (ix2 t 0) = BitVec.ofNat 32 k.val + BitVec.ofNat 32 (256 * c.val) ↔ _
  rw [← BitVec.ofNat_add, Nat.add_comm]
  exact slotOf_eq_iff hr t (by omega)

/-! ## The buffer's rows -/

variable (m : (ℓ : Loc nD τ sig) → Buf (Elt Ideal) ℓ)

/-- Expert `e` of the staged block. -/
theorem expert_at (c : Dev nD) (e : Fin 4) (k : Fin 256) (h : Fin 512) : expert m c e (ix3 0 k h) = wstg m c (ix3 e k h) := by
  match e with
  | 0 | 1 | 2 | 3 =>
    refine congrArg (wstg m c) (funext fun a => Fin.ext ?_)
    match a with
    | ⟨0, _⟩ => rfl
    | ⟨1, _⟩ => exact (Nat.zero_add _).trans (Nat.one_mul _)
    | ⟨2, _⟩ => exact (Nat.zero_add _).trans (Nat.one_mul _)

/-- What every device stages: the same tokens, the same routing, and its own four of the sixteen expert matrices. -/
structure Staged (x : S1024x256.Idx → EReal) (w : Fin 16 → Fin 256 → Fin 512 → EReal) (ex : Fin 1024 → Fin 16) : Prop where
  tokens : ∀ c, xstg m c = x
  routing : ∀ c, Routed (rstg m c) ex
  matrices : ∀ (c : Dev nD) (e : Fin 4) (e' : Fin 16) (k : Fin 256) (h : Fin 512), e'.val = 4 * c.val + e.val → wstg m c (ix3 e k h) = w e' k h

variable {m} {x : S1024x256.Idx → EReal} {w : Fin 16 → Fin 256 → Fin 512 → EReal}

/-- Row `j` of device `c`'s rows for its expert `e`: the token gathered at that slot, times the expert's matrix. -/
theorem piece_at (hm : Staged m x w ex) (c : Dev nD) (e : Fin 4) (j : Fin 64) (h : Fin 512) (e' : Fin 16) (he : e'.val = 4 * c.val + e.val) :
    piece m c e (ix2 j h) = ∑ k : Fin 256, gathered x ex (256 * c.val + 64 * e.val + j.val) k * w e' k h := by
  have hk : ∀ (n : Fin 256) (k : Fin 256), n.val = 64 * e.val + j.val →
      ∑ t : Fin 1024, ownCols (F := Ideal) c (rstg m c) (ix2 t n) * xstg m c (ix2 t k) = gathered x ex (256 * c.val + 64 * e.val + j.val) k := by
    intro n k hn
    refine Finset.sum_congr rfl fun t _ => ?_
    rw [ownCols_at (hm.routing c), hm.tokens c, hn, Nat.add_assoc]
  have hw : ∀ k, expert m c e (ix3 0 k h) = w e' k h := fun k => (expert_at m c e k h).trans (hm.matrices c e e' k h he)
  match e with
  | 0 =>
    unfold piece
    pointwise [k0_pay12, k0_pay11]
    exact Finset.sum_congr rfl fun k _ => congrArg₂ (· * ·) (hk _ k (by simp)) (hw k)
  | 1 =>
    unfold piece
    pointwise [k0_pay14, k0_pay13, k0_pay11]
    exact Finset.sum_congr rfl fun k _ => congrArg₂ (· * ·) (hk _ k (by simp)) (hw k)
  | 2 =>
    unfold piece
    pointwise [k0_pay15, k0_pay11]
    exact Finset.sum_congr rfl fun k _ => congrArg₂ (· * ·) (hk _ k (by simp)) (hw k)
  | 3 =>
    unfold piece
    pointwise [k0_pay16, k0_pay11]
    exact Finset.sum_congr rfl fun k _ => congrArg₂ (· * ·) (hk _ k (by simp)) (hw k)

/-- Row `n` of the buffer. -/
theorem allRows_at (hm : Staged m x w ex) (n : Fin 1024) (h : Fin 512) (e' : Fin 16) (he : e'.val = n.val / 64) :
    allRows m (ix2 n h) = ∑ k : Fin 256, gathered x ex n.val k * w e' k h := by
  have hn := n.isLt
  have hd : (rowDev (ix2 n h)).val = n.val / 256 := rfl
  have hx : (rowExp (ix2 n h)).val = n.val % 256 / 64 := rfl
  have hi : rowIn (ix2 n h) = ix2 ⟨n.val % 64, Nat.mod_lt _ (by decide)⟩ h := by
    funext a
    match a with
    | ⟨0, _⟩ => rfl
    | ⟨1, _⟩ => rfl
  show piece m (rowDev (ix2 n h)) (rowExp (ix2 n h)) (rowIn (ix2 n h)) = _
  rw [hi, piece_at hm _ _ _ _ e' (by rw [hd, hx]; omega), hd, hx]
  exact Finset.sum_congr rfl fun k _ => congrArg (fun q => gathered x ex q k * w e' k h) (by show _ + _ + n.val % 64 = n.val; omega)

/-! ## The result block -/

/-- Device `d`'s share of the result: the one-hot columns of its slots times its rows of the buffer. -/
def devShare (m : (ℓ : Loc nD τ sig) → Buf (Elt Ideal) ℓ) (ex : Fin 1024 → Fin 16) (t : Fin 1024) (h : Fin 512) (d : Dev nD) : EReal :=
  ∑ k : Fin 256, hot ex t (256 * d.val + k.val) * allRows m (ix2 ⟨256 * d.val + k.val, by have : d.val < 4 := d.isLt; have := k.isLt; omega⟩ h)

/-- A share is the dispatched product for the tokens whose slot is device `d`'s, and zero for the others. -/
theorem devShare_eq (hm : Staged m x w ex) (t : Fin 1024) (h : Fin 512) (d : Dev nD) :
    devShare m ex t h d = if d.val = slot ex t / 256 then dispatched x w ex t h else 0 := by
  unfold devShare dispatched
  by_cases hk : rank ex t < capacity
  · by_cases hd : d.val = slot ex t / 256
    · rw [if_pos hd, if_pos hk, Finset.sum_eq_single ⟨slot ex t % 256, Nat.mod_lt _ (by decide)⟩]
      · have hs : 256 * d.val + slot ex t % 256 = slot ex t := by omega
        rw [allRows_at hm _ h (ex t) (by show _ = (256 * d.val + slot ex t % 256) / 64; rw [hs, slot_div hk])]
        show hot ex t (256 * d.val + slot ex t % 256) * ∑ k : Fin 256, gathered x ex (256 * d.val + slot ex t % 256) k * w (ex t) k h = _
        rw [hs, hot, if_pos ⟨hk, rfl⟩, one_mul]
        exact Finset.sum_congr rfl fun k _ => by rw [gathered_slot x ex hk]
      · intro k _ hne
        rw [hot, if_neg fun e => hne (Fin.ext (by have := k.isLt; show k.val = slot ex t % 256; omega)), zero_mul]
      · exact fun hn => absurd (Finset.mem_univ _) hn
    · rw [if_neg hd]
      refine Finset.sum_eq_zero fun k _ => ?_
      rw [hot, if_neg fun e => hd (by have := k.isLt; omega), zero_mul]
  · rw [if_neg hk, ite_self]
    refine Finset.sum_eq_zero fun k _ => ?_
    rw [hot, if_neg fun e => hk e.1, zero_mul]

/-- The columns of device `d`'s slots, as loaded for the product. -/
theorem colsAt_at (hm : Staged m x w ex) (c d : Dev nD) (off : Fin 2 → ℕ) (hoff : off = ![0, 256 * d.val])
    (hin : ∀ a, off a + S1024x256.size a ≤ S1024x1024.size a) (t : Fin 1024) (k : Fin 256) :
    colsAt m c off hin (ix2 t k) = hot ex t (256 * d.val + k.val) := by
  subst hoff
  have hd : d.val < 4 := d.isLt
  refine Eq.trans (congrArg (hotAll m c) (funext fun a => Fin.ext ?_)) (hotAll_at (hm.routing c) t ⟨256 * d.val + k.val, by omega⟩)
  match a with
  | ⟨0, _⟩ => exact (Nat.zero_add _).trans (Nat.one_mul _)
  | ⟨1, _⟩ => exact congrArg (256 * d.val + ·) (Nat.one_mul _)

/-- Device `d`'s rows of the buffer, as loaded for the product. -/
theorem rowsAt_at (d : Dev nD) (off : Fin 2 → ℕ) (hoff : off = ![256 * d.val, 0])
    (hin : ∀ a, off a + S256x512.size a ≤ S1024x512.size a) (k : Fin 256) (h : Fin 512) :
    rowsAt m off hin (ix2 k h) = allRows m (ix2 ⟨256 * d.val + k.val, by have : d.val < 4 := d.isLt; have := k.isLt; omega⟩ h) := by
  subst hoff
  refine congrArg (allRows m) (funext fun a => Fin.ext ?_)
  match a with
  | ⟨0, _⟩ => exact congrArg (256 * d.val + ·) (Nat.one_mul _)
  | ⟨1, _⟩ => exact (Nat.zero_add _).trans (Nat.one_mul _)

theorem off1_eq (c : Dev nD) : k0_off1 c = ![0, 256 * c.val] := by revert c; decide +kernel
theorem off4_eq (c : Dev nD) : k0_off4 c = ![256 * c.val, 0] := by revert c; decide +kernel

/-- One product of the loaded columns and rows is a share. -/
theorem product_eq (hm : Staged m x w ex) (c d : Dev nD) (t : Fin 1024) (h : Fin 512) {off off' : Fin 2 → ℕ} (hoff : off = ![0, 256 * d.val])
    (hoff' : off' = ![256 * d.val, 0]) (hin : ∀ a, off a + S1024x256.size a ≤ S1024x1024.size a)
    (hin' : ∀ a, off' a + S256x512.size a ≤ S1024x512.size a) :
    ∑ k : Fin 256, colsAt m c off hin (ix2 t k) * rowsAt m off' hin' (ix2 k h) = devShare m ex t h d :=
  Finset.sum_congr rfl fun k _ => congrArg₂ (· * ·) (colsAt_at hm c d off hoff hin t k) (rowsAt_at d off' hoff' hin' k h)

/-- The four devices' shares, in the order in which any one device adds them up. -/
theorem sum_devShares (f : Dev nD → EReal) (c : Dev nD) : f c + f (peer 0 c) + f (peer 1 c) + f (peer 2 c) = ∑ d : Dev nD, f d := by
  rw [show (∑ d : Dev nD, f d) = ∑ d : Fin 4, f d from rfl, Fin.sum_univ_four]
  have h4 : ∀ c : Dev nD, c = 0 ∨ c = 1 ∨ c = 2 ∨ c = 3 := by decide
  rcases h4 c with rfl | rfl | rfl | rfl
  · rw [show peer 0 0 = 1 from rfl, show peer 1 0 = 3 from rfl, show peer 2 0 = 2 from rfl]; abel
  · rw [show peer 0 1 = 0 from rfl, show peer 1 1 = 2 from rfl, show peer 2 1 = 3 from rfl]; abel
  · rw [show peer 0 2 = 3 from rfl, show peer 1 2 = 1 from rfl, show peer 2 2 = 0 from rfl]; abel
  · rw [show peer 0 3 = 2 from rfl, show peer 1 3 = 0 from rfl, show peer 2 3 = 1 from rfl]; abel

/-- The shares add up to the dispatched product. -/
theorem sum_devShare (hm : Staged m x w ex) (t : Fin 1024) (h : Fin 512) : ∑ d : Dev nD, devShare m ex t h d = dispatched x w ex t h := by
  by_cases hk : rank ex t < capacity
  · have hs := slot_lt hk
    rw [Finset.sum_eq_single (⟨slot ex t / 256, by show _ < 4; omega⟩ : Dev nD)]
    · rw [devShare_eq hm, if_pos rfl]
    · intro d _ hd
      rw [devShare_eq hm, if_neg fun q => hd (Fin.ext q)]
    · exact fun hn => absurd (Finset.mem_univ _) hn
  · have h0 : dispatched x w ex t h = 0 := if_neg hk
    rw [h0]
    exact Finset.sum_eq_zero fun d _ => by rw [devShare_eq hm, h0, ite_self]

/-- **The result block**: the dispatched product, on every device. -/
theorem outAt_at (hm : Staged m x w ex) (c : Dev nD) (t : Fin 1024) (h : Fin 512) : outAt m c (ix2 t h) = dispatched x w ex t h := by
  refine Eq.trans ?_ ((sum_devShares (devShare m ex t h) c).trans (sum_devShare hm t h))
  unfold outAt out2 out1 out0
  pointwise [k0_pay21, k0_pay20, k0_pay19, k0_pay18]
  rw [product_eq hm c c t h (off1_eq c) (off4_eq c), product_eq hm c (peer 0 c) t h (off5_0 c) (off6_0 c),
    product_eq hm c (peer 1 c) t h (off7_eq c) (off8_eq c), product_eq hm c (peer 2 c) t h (off5_1 c) (off6_1 c)]

end Cert.Dispatch
-- ==== Proof.Ref.lean ====
/- What the reference's result holds: the same dispatched product. Its running sum of the one-hot routing counts a token's
   predecessors, its mask keeps the tokens below the capacity, and its sum over the experts has at most one term. -/
module

public import proofs.«01_k».proof.Proof.Value
public import proofs.«01_k».proof.Proof.Gen.ReferenceIdeal.Run
public import Idealize.ShloMosaic.Lib.Pointwise
public import Idealize.ShloMosaic.Lib.Pointwise.IndexBridge
public import Idealize.ShloMosaic.Lib.Routing.OpsOne

@[expose] public section

set_option maxRecDepth 16384

noncomputable section

namespace Cert.Dispatch.Reference

open Cert.ReferenceIdeal Cert.ReferenceIdeal.Gen
open Idealize.ShloMosaic Idealize.ShloMosaic.TcCoe
open Cert.ReferenceIdeal.Facts

/-- Whether token `t` chose expert `e`. -/
def owns (r : IVec S1024x1 32) : IVec S1024x16 1 :=
  cmpi .eq (broadcastInDim S1024x16 ![0, 1] bcast_S1024x1_S1024x16_0_1 r)
    (broadcastInDim S1024x16 ![0, 1] bcast_S1x16_S1024x16_0_1 (broadcastInDim S1x16 ![1] bcast_S16_S1x16_1 (iotaInDim S16 32 0)))

/-- The running count of the tokens that chose `e`, up to and including `t`. -/
def seen (r : IVec S1024x1 32) : IVec S1024x16 32 :=
  Host.reduceWindow IntOp.addi ![1024, 1] ![1, 1] ![1023, 0] ![0, 0] (extui 32 (owns r) natLt_1_32)
    (broadcastInDim S_ ![] bcast_S_S_ (constantI S_ 32 0#32)) reduceWindows_S1024x16_S1024x16_w1024s1p1023_0_w1s1p0_0 h_S_

/-- Whether expert `e` processes token `t`. -/
def mask (r : IVec S1024x1 32) : IVec S1024x16 1 :=
  andi (owns r) (cmpi .slt (subi (seen r) (extui 32 (owns r) natLt_1_32)) (broadcastInDim S1024x16 ![] bcast_S_S1024x16 (constantI S_ 32 51#32)))

/-- The reference's result. -/
def result (x : FVec Ideal S1024x256 .bf16) (r : IVec S1024x1 32) (w : FVec Ideal S16x256x512 .bf16) : FVec Ideal S1024x512 .f32 :=
  Host.reduceAdd (select (broadcastInDim S1024x16x512 ![0, 1, 2] bcast_S1024x16x1_S1024x16x512_0_1_2
      (broadcastInDim S1024x16x1 ![0, 1] bcast_S1024x16_S1024x16x1_0_1 (mask r)))
    (Host.dotGeneral dot_S1024x256_S16x256x512_S1024x16x512_1_1_0_02_n_n none (extf .f32 x bitsLt_bf16_f32) (extf .f32 w bitsLt_bf16_f32))
    (broadcastInDim S1024x16x512 ![] bcast_S_S1024x16x512 (id (constant S_ .f32 0x00000000#32))))
    (constant S_ .f32 0x00000000#32) reducesTo_S1024x16x512_S1024x512_d1 h_S_

variable {r : IVec S1024x1 32} {ex : Fin 1024 → Fin 16}

/-- One token and one expert of the routing. -/
theorem owns_at (hr : Routed r ex) (t : Fin 1024) (e : Fin 16) : owns r (ix2 t e) = BitVec.ofBool (decide (ex t = e)) := by
  have h1 := (ex t).isLt
  have h2 := e.isLt
  pointwise [owns]
  rw [hr t]
  have hw := word_inj (a := (ex t).val) (b := e.val) (by omega) (by omega)
  show BitVec.ofBool (_ == _) = _
  refine congrArg BitVec.ofBool (Bool.eq_iff_iff.mpr ?_)
  rw [beq_iff_eq, decide_eq_true_iff, hw, Fin.ext_iff]

/-- The count up to and including a token is one more than its rank. -/
theorem seen_at (hr : Routed r ex) (t : Fin 1024) : seen r (ix2 t (ex t)) = BitVec.ofNat 32 (rank ex t + 1) := by
  unfold seen
  rw [ix2_eq_valueIdx]
  refine (Routing.cumsum_rows_sum (Am1 := 1023) rfl (extui 32 (owns r) natLt_1_32) _ rfl _ _ t (ex t)).trans ?_
  have hs : ∀ s : Fin 1024, (if s ≤ t then extui 32 (owns r) natLt_1_32 (ValueIdx.ix2 s (ex t)) else 0#32)
      = if s ≤ t ∧ ex s = ex t then 1 else 0 := fun s => by
    rw [← ix2_eq_valueIdx]
    show (if s ≤ t then (owns r (ix2 s (ex t))).setWidth 32 else 0#32) = _
    rw [owns_at hr]
    by_cases h1 : s ≤ t <;> by_cases h2 : ex s = ex t <;> simp [h1, h2]
  refine (Finset.sum_congr rfl fun s _ => hs s).trans ((Finset.sum_boole _ _).trans ?_)
  have hc : (Finset.univ.filter fun s : Fin 1024 => s ≤ t ∧ ex s = ex t).card = rank ex t + 1 := by
    have : (Finset.univ.filter fun s : Fin 1024 => s ≤ t ∧ ex s = ex t) = insert t (Finset.univ.filter fun s : Fin 1024 => s < t ∧ ex s = ex t) := by
      ext s
      simp only [Finset.mem_filter, Finset.mem_univ, true_and, Finset.mem_insert, le_iff_eq_or_lt]
      constructor
      · rintro ⟨h | h, he⟩
        · exact .inl h
        · exact .inr ⟨h, he⟩
      · rintro (rfl | ⟨h, he⟩)
        · exact ⟨.inl rfl, rfl⟩
        · exact ⟨.inr h, he⟩
    rw [this, Finset.card_insert_of_notMem (fun hm => lt_irrefl _ (Finset.mem_filter.mp hm).2.1)]
    rfl
  rw [hc]
  rfl

/-- The mask: the token's own expert, for a kept token. -/
theorem mask_at (hr : Routed r ex) (t : Fin 1024) (e : Fin 16) : mask r (ix2 t e) = 1#1 ↔ e = ex t ∧ rank ex t < capacity := by
  have hk := rank_le ex t
  pointwise [mask]
  rw [owns_at hr]
  by_cases he : ex t = e
  · subst he
    rw [seen_at hr, decide_eq_true rfl]
    show 1#1 &&& BitVec.ofBool ((BitVec.ofNat 32 (rank ex t + 1) - 1#32).slt 51#32) = 1#1 ↔ _
    rw [BitVec.ofNat_add, show (BitVec.ofNat 32 1 : BitVec 32) = 1#32 from rfl, BitVec.add_sub_cancel, BitVec.slt_eq_decide]
    have hi : (BitVec.ofNat 32 (rank ex t)).toInt = rank ex t := by
      rw [BitVec.toInt_eq_toNat_cond, BitVec.toNat_ofNat]; omega
    rw [hi, show (51#32 : BitVec 32).toInt = 51 from rfl]
    by_cases h : rank ex t < capacity
    · have h' : (rank ex t : ℤ) < 51 := by unfold capacity at h; omega
      simp [h, h']
    · have h' : ¬(rank ex t : ℤ) < 51 := by unfold capacity at h; omega
      simp [h, h']
  · rw [decide_eq_false he]
    exact ⟨fun q => absurd q (by show ¬(0#1 &&& _ = 1#1); rw [BitVec.zero_and]; decide), fun q => absurd q.1.symm he⟩

/-- **The reference's result**: the dispatched product. -/
theorem result_at (hr : Routed r ex) (x : FVec Ideal S1024x256 .bf16) (w : FVec Ideal S16x256x512 .bf16) (t : Fin 1024) (h : Fin 512) :
    result x r w (ix2 t h) = dispatched x (fun e k h => w (ix3 e k h)) ex t h := by
  unfold result
  pointwise
  have hz : (id (constant S_ FTy.f32 0#32) ix0 : Ideal .f32) = (0 : EReal) := Ideal.ofBits_zero_f32
  rw [hz]
  have hs : ∀ e : Fin 16, Scalar.select (mask r (ix2 t e)) (∑ k : Fin 256, x (ix2 t k) * w (ix3 e k h)) (0 : EReal)
      = if e = ex t then dispatched x (fun e k h => w (ix3 e k h)) ex t h else 0 := fun e => by
    unfold dispatched
    show (if mask r (ix2 t e) = 1#1 then _ else _) = _
    by_cases he : e = ex t
    · subst he
      rw [if_pos rfl]
      exact if_congr ((mask_at hr t _).trans (and_iff_right rfl)) rfl rfl
    · rw [if_neg he, if_neg fun q => he ((mask_at hr t e).mp q).1]
  refine (Finset.sum_congr rfl fun e _ => hs e).trans ?_
  rw [Finset.sum_ite_eq', if_pos (Finset.mem_univ _)]

end Cert.Dispatch.Reference
-- ==== Proof.Equation.lean ====
/- The value claim: from memories that hold the same arrays, with every expert index in range, the kernel and the
   reference leave the same result. -/
module

public import proofs.«01_k».proof.Proof.Ref
public import proofs.«01_k».proof.Proof.Run
public import proofs.«01_k».proof.Defs
public import proofs.«01_k».proof.Proof.Gen.Pre_route_in_range_KernelIdeal
public import proofs.«01_k».proof.Proof.Gen.Pre_route_in_range_ReferenceIdeal

@[expose] public section

set_option maxRecDepth 16384

noncomputable section

namespace Cert.Dispatch

open Cert.KernelIdeal Cert.KernelIdeal.Gen
open Idealize.ShloMosaic Idealize.ShloMosaic.TcCoe
open Idealize.SL Idealize.SL.Sem

/-- The routing that expert words spell, each taken below sixteen. -/
def routeOf (r : IVec S1024x1 32) (t : Fin 1024) : Fin 16 := ⟨(r (ix2 t 0)).toNat % 16, Nat.mod_lt _ (by decide)⟩

/-- Words in range spell their routing. -/
theorem routed_of_range (a0 : FVec Ideal S1024x256 .bf16) (a1 : FVec Ideal S256x16 .bf16) (r : IVec S1024x1 32) (a3 : FVec Ideal S4x256x512 .bf16)
    (h : Cert.Pre_route_in_range_KernelIdeal.fn (F := Ideal) a0 a1 r a3 = fun _ => 1#1) : Routed r (routeOf r) := fun t => by
  have h1 := congrFun h (ix2 t 0)
  have h2 : IntOp.andi (IntOp.cmpi .sge (r (ix2 t 0)) 0#32) (IntOp.cmpi .slt (r (ix2 t 0)) 16#32) = 1#1 := h1
  have h3 : (r (ix2 t 0)).toNat < 16 := by
    generalize r (ix2 t 0) = b at h2
    have h4 : BitVec.ofBool ((0#32).sle b) &&& BitVec.ofBool (b.slt 16#32) = 1#1 := h2
    rw [BitVec.sle_eq_decide, BitVec.slt_eq_decide] at h4
    by_cases hl : (0#32 : BitVec 32).toInt ≤ b.toInt <;> by_cases hu : b.toInt < (16#32 : BitVec 32).toInt
    · rw [show (0#32 : BitVec 32).toInt = 0 from rfl] at hl
      rw [show (16#32 : BitVec 32).toInt = 16 from rfl] at hu
      rw [BitVec.toInt_eq_toNat_cond] at hl hu
      have := b.isLt
      split at hl <;> omega
    · rw [decide_eq_true hl, decide_eq_false hu] at h4; exact absurd h4 (by decide)
    · rw [decide_eq_false hl, decide_eq_true hu] at h4; exact absurd h4 (by decide)
    · rw [decide_eq_false hl, decide_eq_false hu] at h4; exact absurd h4 (by decide)
  show r (ix2 t 0) = BitVec.ofNat 32 ((r (ix2 t 0)).toNat % 16)
  rw [Nat.mod_eq_of_lt h3, BitVec.ofNat_toNat, BitVec.setWidth_eq]

/-- The sixteen expert matrices of the reference's array, expert by expert. -/
def matricesOf (w : Cert.ReferenceIdeal.S16x256x512.Idx → EReal) : Fin 16 → Fin 256 → Fin 512 → EReal := fun e k h => w (ix3 e k h)

/-- Device `c`'s block of that array holds the experts `4 c … 4 c + 3`. -/
theorem block_at (w : Cert.ReferenceIdeal.S16x256x512.Idx → EReal) (c : Dev nD) (e : Fin 4) (e' : Fin 16) (k : Fin 256) (h : Fin 512)
    (he : e'.val = 4 * c.val + e.val) :
    Layout.block ⟨3, ![4, 256, 512]⟩ ⟨3, ![16, 256, 512]⟩ 0 4 c w (by decide) (ix3 e k h) = matricesOf w e' k h := by
  refine congrArg w (funext fun a => Fin.ext ?_)
  match a with
  | ⟨0, _⟩ => show c.val * 4 + e.val = e'.val; omega
  | ⟨1, _⟩ => rfl
  | ⟨2, _⟩ => rfl

/-- **The value claim.** -/
theorem algebraic : Cert.algebraic_KernelIdeal_ReferenceIdeal_pre_route_in_range_KernelIdeal := by
  intro m g m' g' hpre hin
  have hroute : Routed (m (((0 : Dev nD) : Thread nD τ).loc main_arg2)) (routeOf (m (((0 : Dev nD) : Thread nD τ).loc main_arg2))) :=
    routed_of_range _ _ _ _ (hpre 0)
  have hr2 : ∀ c : Dev nD, m ((c : Thread nD τ).loc main_arg2) = m (((0 : Dev nD) : Thread nD τ).loc main_arg2) := fun c =>
    (hin c).2.2.1.trans (hin 0).2.2.1.symm
  let ex := routeOf (m (((0 : Dev nD) : Thread nD τ).loc main_arg2))
  let X := m' (((0 : Dev Cert.ReferenceIdeal.nD).tc : Thread Cert.ReferenceIdeal.nD Cert.ReferenceIdeal.τ).loc Cert.ReferenceIdeal.main_arg0)
  let R := m' (((0 : Dev Cert.ReferenceIdeal.nD).tc : Thread Cert.ReferenceIdeal.nD Cert.ReferenceIdeal.τ).loc Cert.ReferenceIdeal.main_arg2)
  let W := m' (((0 : Dev Cert.ReferenceIdeal.nD).tc : Thread Cert.ReferenceIdeal.nD Cert.ReferenceIdeal.τ).loc Cert.ReferenceIdeal.main_arg3)
  have hst : Staged m X (matricesOf W) ex := {
    tokens := fun c => (xstg_eq m c).trans (hin c).1
    routing := fun c => by rw [rstg_eq, hr2 c]; exact hroute
    matrices := fun c e e' k h he => by
      rw [wstg_eq, (hin c).2.2.2]
      exact block_at W c e e' k h he }
  have hR : Routed R ex := by
    have : R = m (((0 : Dev nD) : Thread nD τ).loc main_arg2) := (hin 0).2.2.1.symm
    rw [this]; exact hroute
  have hout : ∀ c, outAt m c = Reference.result X R W := fun c => funext fun j => by
    obtain ⟨t, h, rfl⟩ : ∃ (t : Fin 1024) (h : Fin 512), j = ix2 t h := ⟨j 0, j 1, eq_ix2 j⟩
    exact (outAt_at hst c t h).trans (Reference.result_at hR X W t h).symm
  refine ⟨Reference.result X R W, ?_, ?_⟩
  · refine (θ_run defs _ _).mono (fun _ hq c => ?_) (run_main (F := Ideal) m g)
    exact ⟨((hq.1 c).1).trans (hout c), (hq.1 c).2⟩
  · exact (θ_run Cert.ReferenceIdeal.defs _ _).mono (fun _ hq => hq 0) (Cert.ReferenceIdeal.Value.run m' g')

end Cert.Dispatch
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_route_in_range_KernelIdeal
public import proofs.«01_k».proof.Proof.Gen.Pre_route_in_range_ReferenceIdeal
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate claims: the frames, with and without the precondition, that nothing was rewritten, and the
    equality of the kernel's result with the reference's. -/
theorem claim : Cert.Claim := ⟨Cert.Kernel.Gen.facts, Cert.KernelIdeal.Gen.facts, Cert.ReferenceIdeal.Gen.facts, Cert.Pre_route_in_range_KernelIdeal.Gen.facts, Cert.Pre_route_in_range_ReferenceIdeal.Gen.facts,
  Cert.Dispatch.frame_kernel, Cert.Dispatch.frame_ideal, fun m ρ _ => Cert.Dispatch.frame_ideal m ρ trivial,
  Cert.Dispatch.frame_reference, fun m ρ _ => Cert.Dispatch.frame_reference m ρ trivial, trivial, Cert.Dispatch.algebraic⟩

end Cert.Proof

end
